-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "rope" .f32 0xBE135D8E#32 ((-((1 / 64) * (Real.log 10000)) : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 1024]⟩ ⟨3, ![2, 2048, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 1024]⟩ ⟨3, ![2, 2048, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x1024 : Shape := ⟨3, ![2, 512, 1024]⟩
abbrev S1024x1024 : Shape := ⟨2, ![1024, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x512x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x512x1024 : Shape := ⟨3, ![2, 512, 1024]⟩
abbrev S1024x1024 : Shape := ⟨2, ![1024, 1024]⟩
abbrev S2x1024x512 : Shape := ⟨3, ![2, 1024, 512]⟩
abbrev S1024x8 : Shape := ⟨2, ![1024, 8]⟩
abbrev S3 : Shape := ⟨1, ![3]⟩
abbrev S_ : Shape := ⟨0, ![]⟩
abbrev S1024x128 : Shape := ⟨2, ![1024, 128]⟩
abbrev S1x1024x128 : Shape := ⟨3, ![1, 1024, 128]⟩
abbrev S1024x512 : Shape := ⟨2, ![1024, 512]⟩
abbrev S1x1024x512 : Shape := ⟨3, ![1, 1024, 512]⟩
abbrev S1 : Shape := ⟨1, ![1]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 13
  | .smem => 0
  | _ => 0

abbrev bufTy : (tb : Table) → Fin (tcTables nBuf tb) → BufTy
  | .hbm, ⟨0, _⟩ => ⟨S2x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x512x1024, .f32⟩
  | .local _ .vmem, ⟨0, _⟩ => ⟨S2x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S2x512x1024, .f32⟩
  | .local _ .vmem, ⟨6, _⟩ => ⟨S1024x1024, .bf16⟩
  | .local _ .vmem, ⟨7, _⟩ => ⟨S2x1024x512, .fp8e4m3⟩
  | .local _ .vmem, ⟨8, _⟩ => ⟨S2x1024x512, .fp8e4m3⟩
  | .local _ .vmem, ⟨9, _⟩ => ⟨S2x1024x512, .bf16⟩
  | .local _ .vmem, ⟨10, _⟩ => ⟨S2x1024x512, .bf16⟩
  | .local _ .vmem, ⟨11, _⟩ => ⟨S1024x1024, .f32⟩
  | .local _ .vmem, ⟨12, _⟩ => ⟨S1024x8, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 4 30 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_82 : BitVec 32 := 1#32
  let v183 : BitVec 32 := Scalar.muli v4 c1_i32_82
  let v184 : BitVec 32 := Scalar.addi c0_i32_83 v183
  v184.toNat
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_92 : BitVec 32 := 1#32
  let v193 : BitVec 32 := Scalar.muli v4 c1_i32_92
  let v194 : BitVec 32 := Scalar.addi c0_i32_93 v193
  v194.toNat
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_102 : BitVec 32 := 1#32
  let v203 : BitVec 32 := Scalar.muli v7 c1_i32_102
  let v204 : BitVec 32 := Scalar.addi c0_i32_103 v203
  v204.toNat
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_112 : BitVec 32 := 1#32
  let v213 : BitVec 32 := Scalar.muli v7 c1_i32_112
  let v214 : BitVec 32 := Scalar.addi c0_i32_113 v213
  v214.toNat
def k0_dev7 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_483 : BitVec 32 := 1#32
  let v707 : BitVec 32 := Scalar.muli v7 c1_i32_483
  let v708 : BitVec 32 := Scalar.addi c0_i32_484 v707
  v708.toNat
def k0_dev8 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_486 : BitVec 32 := 1#32
  let v709 : BitVec 32 := Scalar.muli v4 c1_i32_486
  let v710 : BitVec 32 := Scalar.addi c0_i32_487 v709
  v710.toNat
def k0_dev9 (d0 : Dev nD) : Nat :=
  let c0_i32_497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_496 : BitVec 32 := 1#32
  let v711 : BitVec 32 := Scalar.muli v4 c1_i32_496
  let v712 : BitVec 32 := Scalar.addi c0_i32_497 v711
  v712.toNat
def k0_dev10 (d0 : Dev nD) : Nat :=
  let c0_i32_507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_506 : BitVec 32 := 1#32
  let v721 : BitVec 32 := Scalar.muli v4 c1_i32_506
  let v722 : BitVec 32 := Scalar.addi c0_i32_507 v721
  v722.toNat
def k0_dev11 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_516 : BitVec 32 := 1#32
  let v731 : BitVec 32 := Scalar.muli v7 c1_i32_516
  let v732 : BitVec 32 := Scalar.addi c0_i32_517 v731
  v732.toNat
def k0_dev12 (d0 : Dev nD) : Nat :=
  let c0_i32_527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_526 : BitVec 32 := 1#32
  let v741 : BitVec 32 := Scalar.muli v7 c1_i32_526
  let v742 : BitVec 32 := Scalar.addi c0_i32_527 v741
  v742.toNat
def k0_dev13 (d0 : Dev nD) : Nat :=
  let c0_i32_930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_929 : BitVec 32 := 1#32
  let v1191 : BitVec 32 := Scalar.muli v7 c1_i32_929
  let v1192 : BitVec 32 := Scalar.addi c0_i32_930 v1191
  v1192.toNat
def k0_dev14 (d0 : Dev nD) : Nat :=
  let c0_i32_933 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_932 : BitVec 32 := 1#32
  let v1193 : BitVec 32 := Scalar.muli v4 c1_i32_932
  let v1194 : BitVec 32 := Scalar.addi c0_i32_933 v1193
  v1194.toNat
def k0_dev15 (d0 : Dev nD) : Nat :=
  let c0_i32_943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_942 : BitVec 32 := 1#32
  let v1195 : BitVec 32 := Scalar.muli v4 c1_i32_942
  let v1196 : BitVec 32 := Scalar.addi c0_i32_943 v1195
  v1196.toNat
def k0_dev16 (d0 : Dev nD) : Nat :=
  let c0_i32_953 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_952 : BitVec 32 := 1#32
  let v1205 : BitVec 32 := Scalar.muli v4 c1_i32_952
  let v1206 : BitVec 32 := Scalar.addi c0_i32_953 v1205
  v1206.toNat
def k0_dev17 (d0 : Dev nD) : Nat :=
  let c0_i32_963 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_962 : BitVec 32 := 1#32
  let v1215 : BitVec 32 := Scalar.muli v7 c1_i32_962
  let v1216 : BitVec 32 := Scalar.addi c0_i32_963 v1215
  v1216.toNat
def k0_dev18 (d0 : Dev nD) : Nat :=
  let c0_i32_973 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_972 : BitVec 32 := 1#32
  let v1225 : BitVec 32 := Scalar.muli v7 c1_i32_972
  let v1226 : BitVec 32 := Scalar.addi c0_i32_973 v1225
  v1226.toNat
def k0_dev19 (d0 : Dev nD) : Nat :=
  let c0_i32_1800_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1799_r0 : BitVec 32 := 1#32
  let v2195_r0 : BitVec 32 := Scalar.muli v7 c1_i32_1799_r0
  let v2196_r0 : BitVec 32 := Scalar.addi c0_i32_1800_r0 v2195_r0
  v2196_r0.toNat
def k0_dev20 (d0 : Dev nD) : Nat :=
  let c0_i32_1803_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1802_r0 : BitVec 32 := 1#32
  let v2197_r0 : BitVec 32 := Scalar.muli v4 c1_i32_1802_r0
  let v2198_r0 : BitVec 32 := Scalar.addi c0_i32_1803_r0 v2197_r0
  v2198_r0.toNat
abbrev stage0_0 : Fin 1 → Memref sig .tc .vmem S2x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "rope" => some ((-((1 / 64) * (Real.log 10000)) : ℝ) : EReal)
  | _ => none
-- ==== ReferenceIdeal.lean ====
abbrev S2x2048x1024 : Shape := ⟨3, ![2, 2048, 1024]⟩
abbrev S1024x1024 : Shape := ⟨2, ![1024, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x64x2 : Shape := ⟨3, ![2048, 64, 2]⟩
abbrev S2048x128 : Shape := ⟨2, ![2048, 128]⟩
abbrev S2x2048x8x128 : Shape := ⟨4, ![2, 2048, 8, 128]⟩
abbrev S2x2048x8x64x2 : Shape := ⟨5, ![2, 2048, 8, 64, 2]⟩
abbrev S2x2048x8x64x1 : Shape := ⟨5, ![2, 2048, 8, 64, 1]⟩
abbrev S2x2048x8x64 : Shape := ⟨4, ![2, 2048, 8, 64]⟩
abbrev S1x2048x1x128 : Shape := ⟨4, ![1, 2048, 1, 128]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .i32⟩
  | .hbm, ⟨23, _⟩ => ⟨S2048x1, .i32⟩
  | .hbm, ⟨24, _⟩ => ⟨S1x64, .f32⟩
  | .hbm, ⟨25, _⟩ => ⟨S2048x1, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64x2, .f32⟩
  | .hbm, ⟨31, _⟩ => ⟨S2048x128, .f32⟩
  | .hbm, ⟨32, _⟩ => ⟨S2048x64, .f32⟩
  | .hbm, ⟨33, _⟩ => ⟨S2048x64x2, .f32⟩
  | .hbm, ⟨34, _⟩ => ⟨S2048x128, .f32⟩
  | .hbm, ⟨35, _⟩ => ⟨S2x2048x1024, .f32⟩
  | .hbm, ⟨36, _⟩ => ⟨S2x2048x8x128, .f32⟩
  | .hbm, ⟨37, _⟩ => ⟨S2x2048x8x64x2, .f32⟩
  | .hbm, ⟨38, _⟩ => ⟨S2x2048x8x64x1, .f32⟩
  | .hbm, ⟨39, _⟩ => ⟨S2x2048x8x64, .f32⟩
  | .hbm, ⟨40, _⟩ => ⟨S2x2048x8x64, .f32⟩
  | .hbm, ⟨41, _⟩ => ⟨S2x2048x8x64x1, .f32⟩
  | .hbm, ⟨42, _⟩ => ⟨S2x2048x8x64, .f32⟩
  | .hbm, ⟨43, _⟩ => ⟨S2x2048x8x64x1, .f32⟩
  | .hbm, ⟨44, _⟩ => ⟨S2x2048x8x64x1, .f32⟩
  | .hbm, ⟨45, _⟩ => ⟨S2x2048x8x64x2, .f32⟩
  | .hbm, ⟨46, _⟩ => ⟨S2x2048x8x128, .f32⟩
  | .hbm, ⟨47, _⟩ => ⟨S1x2048x1x128, .f32⟩
  | .hbm, ⟨48, _⟩ => ⟨S2x2048x8x128, .f32⟩
  | .hbm, ⟨49, _⟩ => ⟨S2x2048x8x128, .f32⟩
  | .hbm, ⟨50, _⟩ => ⟨S1x2048x1x128, .f32⟩
  | .hbm, ⟨51, _⟩ => ⟨S2x2048x8x128, .f32⟩
  | .hbm, ⟨52, _⟩ => ⟨S2x2048x8x128, .f32⟩
  | .hbm, ⟨53, _⟩ => ⟨S2x2048x8x128, .f32⟩
  | .hbm, ⟨54, _⟩ => ⟨S2x2048x1024, .f32⟩
  | .hbm, ⟨55, _⟩ => ⟨S2x2048x8x128, .f32⟩
  | .hbm, ⟨56, _⟩ => ⟨S2x2048x8x64x2, .f32⟩
  | .hbm, ⟨57, _⟩ => ⟨S2x2048x8x64x1, .f32⟩
  | .hbm, ⟨58, _⟩ => ⟨S2x2048x8x64, .f32⟩
  | .hbm, ⟨59, _⟩ => ⟨S2x2048x8x64, .f32⟩
  | .hbm, ⟨60, _⟩ => ⟨S2x2048x8x64x1, .f32⟩
  | .hbm, ⟨61, _⟩ => ⟨S2x2048x8x64, .f32⟩
  | .hbm, ⟨62, _⟩ => ⟨S2x2048x8x64x1, .f32⟩
  | .hbm, ⟨63, _⟩ => ⟨S2x2048x8x64x1, .f32⟩
  | .hbm, ⟨64, _⟩ => ⟨S2x2048x8x64x2, .f32⟩
  | .hbm, ⟨65, _⟩ => ⟨S2x2048x8x128, .f32⟩
  | .hbm, ⟨66, _⟩ => ⟨S1x2048x1x128, .f32⟩
  | .hbm, ⟨67, _⟩ => ⟨S2x2048x8x128, .f32⟩
  | .hbm, ⟨68, _⟩ => ⟨S2x2048x8x128, .f32⟩
  | .hbm, ⟨69, _⟩ => ⟨S1x2048x1x128, .f32⟩
  | .hbm, ⟨70, _⟩ => ⟨S2x2048x8x128, .f32⟩
  | .hbm, ⟨71, _⟩ => ⟨S2x2048x8x128, .f32⟩
  | .hbm, ⟨72, _⟩ => ⟨S2x2048x8x128, .f32⟩
  | .hbm, ⟨73, _⟩ => ⟨S2x2048x1024, .f32⟩
  | .hbm, ⟨74, _⟩ => ⟨S2x2048x8x128, .f32⟩
  | .hbm, ⟨75, _⟩ => ⟨S2x8x2048x2048, .f32⟩
  | .hbm, ⟨76, _⟩ => ⟨S_, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048, .f32⟩
  | .hbm, ⟨81, _⟩ => ⟨S2x8x2048x1, .f32⟩
  | .hbm, ⟨82, _⟩ => ⟨S2x8x2048x2048, .f32⟩
  | .hbm, ⟨83, _⟩ => ⟨S2x8x2048x2048, .f32⟩
  | .hbm, ⟨84, _⟩ => ⟨S2x8x2048x2048, .f32⟩
  | .hbm, ⟨85, _⟩ => ⟨S_, .f32⟩
  | .hbm, ⟨86, _⟩ => ⟨S2x8x2048, .f32⟩
  | .hbm, ⟨87, _⟩ => ⟨S2x8x2048x1, .f32⟩
  | .hbm, ⟨88, _⟩ => ⟨S2x8x2048x2048, .f32⟩
  | .hbm, ⟨89, _⟩ => ⟨S2x8x2048x2048, .f32⟩
  | .hbm, ⟨90, _⟩ => ⟨S2x8x128x2048, .f32⟩
  | .hbm, ⟨91, _⟩ => ⟨S2x2048x8x128, .f32⟩
  | .hbm, ⟨92, _⟩ => ⟨S2x2048x1024, .f32⟩
  | .hbm, ⟨93, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Prog.lean ====
/- The kernel's body written again in pieces: one definition per logical step (a store of one head, one block of
   attention, the four copies of one hop, …), each over its own parameters, and the whole body as their sequence. The
   printed body is that sequence, so a statement about each piece is proved once. -/
module

public import proofs.«01_k».proof.Proof.Gen.KernelIdeal
public import Idealize.ShloMosaic.Lib.Pipeline.Regions

@[expose] public section

noncomputable section

namespace Cert.Attn

open Idealize.ShloMosaic Idealize.ShloMosaic.TcCoe Idealize.SL.Sem
open Cert.KernelIdeal
open Facts₀ Facts

variable {F : FTy → Type} [FloatOps F] [Named F]

/-- The kernels' facts, proved by the generated module. -/
@[reducible] def theFacts : Cert.KernelIdeal.Facts := Cert.KernelIdeal.Gen.facts
attribute [local instance] theFacts

/-- The programs the body is made of. -/
abbrev BProg (α : Type) := Prog (TpuEff nD τ sig (Elt F) Λ₀ .tc) α

/-! ## Side conditions at a parameter -/

theorem inb_slot (s : Fin 2) : ∀ a, (![s.val, 0, 0] : Fin 3 → Nat) a + S1x1024x512.size a ≤ S2x1024x512.size a := by
  revert s; decide
theorem inb_khead (h : Fin 4) : ∀ a, (![0, 0, 128 * h.val] : Fin 3 → Nat) a + S1x1024x128.size a ≤ S2x1024x512.size a := by
  revert h; decide
theorem inb_kblk (s b : Fin 2) (h : Fin 4) :
    ∀ a, (![s.val, 512 * b.val, 128 * h.val] : Fin 3 → Nat) a + S1x512x128.size a ≤ S2x1024x512.size a := by
  revert s b h; decide
theorem inb_qhead (h : Fin 8) : ∀ a, (![0, 128 * h.val] : Fin 2 → Nat) a + S1024x128.size a ≤ S1024x1024.size a := by
  revert h; decide
theorem inb_qblk (b : Fin 2) (g : Fin 8) :
    ∀ a, (![512 * b.val, 128 * g.val] : Fin 2 → Nat) a + S512x128.size a ≤ S1024x1024.size a := by
  revert b g; decide
theorem inb_lblk (b : Fin 2) (g : Fin 8) :
    ∀ a, (![512 * b.val, g.val] : Fin 2 → Nat) a + S512x1.size a ≤ S1024x8.size a := by
  revert b g; decide
theorem inb_sem (h : Fin 3) : ∀ a, (![h.val] : Fin 1 → Nat) a + S1.size a ≤ S3.size a := by
  revert h; decide

theorem packed_khead (h : Fin 4) : (Rect.unit (s := S2x1024x512) ![0, 0, 128 * h.val] S1x1024x128.size (inb_khead h)).PackedRows
    (EltTy.packing .fp8e4m3) := by revert h; decide
theorem packed_vhalf : (Rect.unit (s := S2x1024x512) ![0, 0, 0] S1x1024x512.size (inb_slot 0)).PackedRows
    (EltTy.packing .bf16) := by decide
theorem packed_qhead (h : Fin 8) : (Rect.unit (s := S1024x1024) ![0, 128 * h.val] S1024x128.size (inb_qhead h)).PackedRows
    (EltTy.packing .bf16) := by revert h; decide
theorem packed_qblk (b : Fin 2) (g : Fin 8) : (Rect.unit (s := S1024x1024) ![512 * b.val, 128 * g.val] S512x128.size (inb_qblk b g)).PackedRows
    (EltTy.packing .bf16) := by revert b g; decide
theorem words_fp8 (s : Fin 2) : (Rect.unit (s := S2x1024x512) ![s.val, 0, 0] S1x1024x512.size (inb_slot s)).WholeWords
    (EltTy.packing .fp8e4m3) := by revert s; decide
theorem words_bf16 (s : Fin 2) : (Rect.unit (s := S2x1024x512) ![s.val, 0, 0] S1x1024x512.size (inb_slot s)).WholeWords
    (EltTy.packing .bf16) := by revert s; decide
theorem slices_head (h : Fin 8) : S1024x1024.Slices ![0, 128 * h.val] S1024x128 := by revert h; decide
theorem slices_half (h : Fin 2) : S1024x1024.Slices ![0, 512 * h.val] S1024x512 := by revert h; decide

/-! ## The buffers and semaphores -/

/-- The queries' buffer, the accumulator and the row sums. -/
abbrev qM : Memref sig .tc .vmem S1024x1024 .bf16 := Memref.whole cc0_scratch0
abbrev accM : Memref sig .tc .vmem S1024x1024 .f32 := Memref.whole cc0_scratch5
abbrev lM : Memref sig .tc .vmem S1024x8 .f32 := Memref.whole cc0_scratch6
/-- The two-slot buffers that travel to the right neighbour (0) and to the left one (1). -/
def kM : Fin 2 → Memref sig .tc .vmem S2x1024x512 .fp8e4m3
  | 0 => Memref.whole cc0_scratch1
  | 1 => Memref.whole cc0_scratch2
def vM : Fin 2 → Memref sig .tc .vmem S2x1024x512 .bf16
  | 0 => Memref.whole cc0_scratch3
  | 1 => Memref.whole cc0_scratch4
theorem kM_whole : ∀ r, (kM r).IsWhole
  | 0 => Memref.isWhole_whole _
  | 1 => Memref.isWhole_whole _
theorem vM_whole : ∀ r, (vM r).IsWhole
  | 0 => Memref.isWhole_whole _
  | 1 => Memref.isWhole_whole _

/-- The semaphores of one hop: of the copies of keys and of values, by direction. -/
def ksS : Fin 2 → DmaSems sig S3
  | 0 => cc0_scratch7
  | 1 => cc0_scratch9
def krS : Fin 2 → DmaSems sig S3
  | 0 => cc0_scratch8
  | 1 => cc0_scratch10
def vsS : Fin 2 → DmaSems sig S3
  | 0 => cc0_scratch11
  | 1 => cc0_scratch13
def vrS : Fin 2 → DmaSems sig S3
  | 0 => cc0_scratch12
  | 1 => cc0_scratch14
def semAt (m : DmaSems sig S3) (h : Fin 3) : DmaSem sig :=
  ((m.slice (Rect.unit (s := S3) ![h.val] S1.size (inb_sem h))).squeeze S_ squeezes_S1_S_).sem
def crS : Fin 2 → Sem sig
  | 0 => cc0_scratch15.sem
  | 1 => cc0_scratch16.sem
def barS : Sem sig := (SemArray.scalar (sig.barrier 0 rfl) : Sems sig S_).sem
def endS : Sem sig := cc0_scoped0.sem

/-- One slot of a two-slot buffer. -/
def slotM {φ : EltTy} (m : Memref sig .tc .vmem S2x1024x512 φ) (s : Fin 2) : Memref sig .tc .vmem S1024x512 φ :=
  (m.slice (Rect.unit (s := S2x1024x512) ![s.val, 0, 0] S1x1024x512.size (inb_slot s)) (fun _ => rfl)).squeeze S1024x512
    squeezes_S1x1024x512_S1024x512
/-- The slot a hop sends from and the slot it fills on the neighbour. -/
def sl : Fin 3 → Fin 2
  | 0 => 0
  | 1 => 1
  | 2 => 0
def sl' : Fin 3 → Fin 2
  | 0 => 1
  | 1 => 0
  | 2 => 1

/-- The device each remote operation names: by the direction of travel. -/
def bar1 (d : Dev nD) : Dev nD := ⟨k0_dev1 d, k0_dev1_lt d⟩
def bar2 (d : Dev nD) : Dev nD := ⟨k0_dev2 d, k0_dev2_lt d⟩
def end1 (d : Dev nD) : Dev nD := ⟨k0_dev19 d, k0_dev19_lt d⟩
def end2 (d : Dev nD) : Dev nD := ⟨k0_dev20 d, k0_dev20_lt d⟩
def cr1 (d : Dev nD) : Fin 2 → Dev nD
  | 0 => ⟨k0_dev7 d, k0_dev7_lt d⟩
  | 1 => ⟨k0_dev13 d, k0_dev13_lt d⟩
def cr2 (d : Dev nD) : Fin 2 → Dev nD
  | 0 => ⟨k0_dev8 d, k0_dev8_lt d⟩
  | 1 => ⟨k0_dev14 d, k0_dev14_lt d⟩
def kDev (d : Dev nD) : Fin 3 → Fin 2 → Dev nD
  | 0, 0 => ⟨k0_dev3 d, k0_dev3_lt d⟩
  | 0, 1 => ⟨k0_dev5 d, k0_dev5_lt d⟩
  | 1, 0 => ⟨k0_dev9 d, k0_dev9_lt d⟩
  | 1, 1 => ⟨k0_dev11 d, k0_dev11_lt d⟩
  | 2, 0 => ⟨k0_dev15 d, k0_dev15_lt d⟩
  | 2, 1 => ⟨k0_dev17 d, k0_dev17_lt d⟩
def vDev (d : Dev nD) : Fin 3 → Fin 2 → Dev nD
  | 0, 0 => ⟨k0_dev4 d, k0_dev4_lt d⟩
  | 0, 1 => ⟨k0_dev6 d, k0_dev6_lt d⟩
  | 1, 0 => ⟨k0_dev10 d, k0_dev10_lt d⟩
  | 1, 1 => ⟨k0_dev12 d, k0_dev12_lt d⟩
  | 2, 0 => ⟨k0_dev16 d, k0_dev16_lt d⟩
  | 2, 1 => ⟨k0_dev18 d, k0_dev18_lt d⟩

/-! ## The values -/

/-- The rows' positions on device `d`. -/
def posV (d : Dev nD) : FVec F S1024x128 .f32 :=
  let v2 : BitVec 32 := Scalar.remsi (Scalar.divsi (Dev.word d) 1#32) 4#32
  have v13 : IVec S1024x128 32 := iota .tc S1024x128 32 [0] iota_S1024x128_d0_w32
  have v16 : IVec S1024x128 32 := remsi v13 (broadcast S1024x128 512#32)
  sitofp .f32 (addi (broadcast S1024x128 (Scalar.muli v2 512#32)) v16)
/-- The columns. -/
def colV : IVec S1024x128 32 := iota .tc S1024x128 32 [1] iota_S1024x128_d1_w32
/-- Half a column, rounded down. -/
def halfV : IVec S1024x128 32 :=
  have v22 : IVec S1024x128 32 := divsi colV (broadcast S1024x128 2#32)
  have v25 : IVec S1024x128 32 := extui 32 (cmpi .sgt colV (broadcast S1024x128 0#32)) natLt_1_32
  have v28 : IVec S1024x128 32 := extui 32 (cmpi .slt colV (broadcast S1024x128 0#32)) natLt_1_32
  let v34 : BitVec 32 := Scalar.subi (Scalar.extui (Scalar.cmpi .sgt (2#32 : BitVec 32) 0#32)) (Scalar.extui (Scalar.cmpi .slt (2#32 : BitVec 32) 0#32))
  have v36 : IVec S1024x128 1 := cmpi .ne (subi v25 v28) (broadcast S1024x128 v34)
  have v40 : IVec S1024x128 1 := cmpi .ne (remsi colV (broadcast S1024x128 2#32)) (broadcast S1024x128 0#32)
  select (andi v36 v40) (subi v22 (broadcast S1024x128 1#32)) v22
/-- The rotation's frequencies. -/
def freqV : FVec F S1024x128 .f32 :=
  exp (mulf (sitofp .f32 halfV) (broadcast S1024x128 (Named.named κ "rope" 0xBE135D8E#32)))
def cosV (d : Dev nD) : FVec F S1024x128 .f32 := cos (mulf (posV d) freqV)
def sinV (d : Dev nD) : FVec F S1024x128 .f32 := sin (mulf (posV d) freqV)
def evenV : IVec S1024x128 1 := cmpi .eq (remsi colV (broadcast S1024x128 2#32)) (broadcast S1024x128 0#32)

/-- One head of a projection, rotated. -/
def ropeV (d : Dev nD) (y : FVec F S1024x1024 .f32) (h : Fin 8) : FVec F S1024x128 .f32 :=
  have t : FVec F S1024x128 .f32 := extractStridedSlice S1024x128 ![0, 128 * h.val] y (slices_head h)
  have z : F .f32 := Scalar.ofBits .f32 0x00000000#32
  have a : FVec F S1024x128 .f32 := subf (broadcast S1024x128 z) (dynamicRotate 1 127#32 none t rotates_S1024x128_d1)
  have b : FVec F S1024x128 .f32 := dynamicRotate 1 1#32 none t rotates_S1024x128_d1
  addf (mulf t (cosV d)) (mulf (select evenV a b) (sinV d))

/-- The device's rows of `x`, as a matrix. -/
def xV (x : Vec F S2x512x1024 .f32) : FVec F S1024x1024 .bf16 :=
  truncf .bf16 (shapeCast S1024x1024 (shapeCast S2x512x1024 x shapeCasts_S2x512x1024_S2x512x1024) shapeCasts_S2x512x1024_S1024x1024) bitsLt_bf16_f32
/-- A projection of them. -/
def projV (x : Vec F S2x512x1024 .f32) (w : Vec F S1024x1024 .f32) : FVec F S1024x1024 .f32 :=
  matmul dot_S1024x1024_S1024x1024_S1024x1024_1_0_0_1_n_n none (xV x)
    (truncf .bf16 (shapeCast S1024x1024 w shapeCasts_S1024x1024_S1024x1024) bitsLt_bf16_f32) (constant S1024x1024 .f32 0x00000000#32)
def kHead (d : Dev nD) (y : FVec F S1024x1024 .f32) (h : Fin 8) : FVec F S1024x128 .fp8e4m3 :=
  truncf .fp8e4m3 (ropeV d y h) bitsLt_fp8e4m3_f32
def qHead (d : Dev nD) (y : FVec F S1024x1024 .f32) (h : Fin 8) : FVec F S1024x128 .bf16 :=
  truncf .bf16 (ropeV d y h) bitsLt_bf16_f32
def vHalf (y : FVec F S1024x1024 .f32) (r : Fin 2) : FVec F S1024x512 .bf16 :=
  truncf .bf16 (extractStridedSlice S1024x512 ![0, 512 * r.val] y (slices_half r)) bitsLt_bf16_f32

/-- The weights of one block: the exponentials of the scaled scores. -/
def eV (q : Vec F S512x128 .bf16) (k : Vec F S1x512x128 .fp8e4m3) : FVec F S512x512 .f32 :=
  have s : FVec F S512x512 .f32 := matmul dot_S512x128_S512x128_S512x512_1_1_0_0_n_n none q
    (extf .bf16 (shapeCast S512x128 k shapeCasts_S1x512x128_S512x128) bitsLt_fp8e4m3_bf16) (constant S512x512 .f32 0x00000000#32)
  exp (mulf s (broadcast S512x512 (Scalar.ofBits .f32 0x3DB504F3#32)))
def sumV (e : FVec F S512x512 .f32) : FVec F S512x1 .f32 :=
  shapeCast S512x1 (multiReduction .add [1] S512 e 0x00000000#32 reduces_S512x512_S512 (.inl rfl) rfl) shapeCasts_S512_S512x1
def pvV (e : FVec F S512x512 .f32) (v : Vec F S1x512x128 .bf16) : FVec F S512x128 .f32 :=
  matmul dot_S512x512_S512x128_S512x128_1_0_0_1_n_n none (truncf .bf16 e bitsLt_bf16_f32)
    (shapeCast S512x128 v shapeCasts_S1x512x128_S512x128) (constant S512x128 .f32 0x00000000#32)
def quotV (a : Vec F S512x128 .f32) (l : Vec F S512x1 .f32) : FVec F S512x128 .bf16 :=
  truncf .bf16 (divf a (broadcastTo S512x128 l broadcasts_S512x1_S512x128)) bitsLt_bf16_f32
def outV (q : Vec F S1024x1024 .bf16) (w : Vec F S1024x1024 .f32) : FVec F S2x512x1024 .f32 :=
  shapeCast S2x512x1024 (matmul dot_S1024x1024_S1024x1024_S1024x1024_1_0_0_1_n_n none q
    (truncf .bf16 (shapeCast S1024x1024 w shapeCasts_S1024x1024_S1024x1024) bitsLt_bf16_f32) (constant S1024x1024 .f32 0x00000000#32))
    shapeCasts_S1024x1024_S2x512x1024

/-! ## The pieces -/

/-- A list of steps in order. -/
def steps {α : Type} (f : α → BProg (F := F) PUnit) : List α → BProg (F := F) PUnit
  | [] => .ret ⟨⟩
  | a :: l => (f a).bind fun _ => steps f l

/-- Read a whole weight. -/
def loadW (m : Memref sig .tc .vmem S1024x1024 .f32) : BProg (F := F) (Vec F S1024x1024 .f32) :=
  Prog.lift (.load m (Rect.unit (s := S1024x1024) ![0, 0] S1024x1024.size inb_S1024x1024_S1024x1024_0_0).toLoadRect (View.loadsAt_vmem h_S1024x1024))
/-- Read the whole input. -/
def loadX (m : Memref sig .tc .vmem S2x512x1024 .f32) : BProg (F := F) (Vec F S2x512x1024 .f32) :=
  Prog.lift (.load m (Rect.unit (s := S2x512x1024) ![0, 0, 0] S2x512x1024.size inb_S2x512x1024_S2x512x1024_0_0_0).toLoadRect (View.loadsAt_vmem h_S2x512x1024))

/-- Store one head of keys in slot 0. -/
def putK (r : Fin 2) (h : Fin 4) (w : FVec F S1024x128 .fp8e4m3) : BProg (F := F) PUnit := do
  let _ ← Prog.lift (.load (kM r) (Rect.unit (s := S2x1024x512) ![0, 0, 128 * h.val] S1x1024x128.size (inb_khead h)).toLoadRect (View.loadsAt_vmem h_S1x1024x128))
  Prog.lift (.store (kM r) (Rect.unit (s := S2x1024x512) ![0, 0, 128 * h.val] S1x1024x128.size (inb_khead h)) (shapeCast S1x1024x128 w shapeCasts_S1024x128_S1x1024x128) Finset.univ (View.stores_vmem h_S1x1024x128 ((kM_whole r).storeExact_slice rfl _ (packed_khead h)) (fun _ => rfl)) (.inl rfl))
/-- Store one half of the values in slot 0. -/
def putV (r : Fin 2) (w : FVec F S1024x512 .bf16) : BProg (F := F) PUnit := do
  let _ ← Prog.lift (.load (vM r) (Rect.unit (s := S2x1024x512) ![0, 0, 0] S1x1024x512.size (inb_slot 0)).toLoadRect (View.loadsAt_vmem h_S1x1024x512))
  Prog.lift (.store (vM r) (Rect.unit (s := S2x1024x512) ![0, 0, 0] S1x1024x512.size (inb_slot 0)) (shapeCast S1x1024x512 w shapeCasts_S1024x512_S1x1024x512) Finset.univ (View.stores_vmem h_S1x1024x512 ((vM_whole r).storeExact_slice rfl _ packed_vhalf) (fun _ => rfl)) (.inl rfl))
/-- Store one head of queries. -/
def putQ (h : Fin 8) (w : FVec F S1024x128 .bf16) : BProg (F := F) PUnit := do
  let _ ← Prog.lift (.load qM (Rect.unit (s := S1024x1024) ![0, 128 * h.val] S1024x128.size (inb_qhead h)).toLoadRect (View.loadsAt_vmem h_S1024x128))
  Prog.lift (.store qM (Rect.unit (s := S1024x1024) ![0, 128 * h.val] S1024x128.size (inb_qhead h)) (shapeCast S1024x128 w shapeCasts_S1024x128_S1024x128) Finset.univ (View.stores_vmem h_S1024x128 ((Memref.isWhole_whole cc0_scratch0).storeExact_slice rfl _ (packed_qhead h)) (fun _ => rfl)) (.inl rfl))

def loadQ (b : Fin 2) (g : Fin 8) : BProg (F := F) (Vec F S512x128 .bf16) :=
  Prog.lift (.load qM (Rect.unit (s := S1024x1024) ![512 * b.val, 128 * g.val] S512x128.size (inb_qblk b g)).toLoadRect (View.loadsAt_vmem h_S512x128))
def loadK (r s b : Fin 2) (h : Fin 4) : BProg (F := F) (Vec F S1x512x128 .fp8e4m3) :=
  Prog.lift (.load (kM r) (Rect.unit (s := S2x1024x512) ![s.val, 512 * b.val, 128 * h.val] S1x512x128.size (inb_kblk s b h)).toLoadRect (View.loadsAt_vmem h_S1x512x128))
def loadV (r s b : Fin 2) (h : Fin 4) : BProg (F := F) (Vec F S1x512x128 .bf16) :=
  Prog.lift (.load (vM r) (Rect.unit (s := S2x1024x512) ![s.val, 512 * b.val, 128 * h.val] S1x512x128.size (inb_kblk s b h)).toLoadRect (View.loadsAt_vmem h_S1x512x128))
def loadA (b : Fin 2) (g : Fin 8) : BProg (F := F) (Vec F S512x128 .f32) :=
  Prog.lift (.load accM (Rect.unit (s := S1024x1024) ![512 * b.val, 128 * g.val] S512x128.size (inb_qblk b g)).toLoadRect (View.loadsAt_vmem h_S512x128))
def loadL (b : Fin 2) (g : Fin 8) : BProg (F := F) (Vec F S512x1 .f32) :=
  Prog.lift (.load lM (Rect.unit (s := S1024x8) ![512 * b.val, g.val] S512x1.size (inb_lblk b g)).toLoadRect (View.loadsAt_vmem h_S512x1))
def storeA (b : Fin 2) (g : Fin 8) (w : FVec F S512x128 .f32) : BProg (F := F) PUnit := do
  let _ ← loadA b g
  Prog.lift (.store accM (Rect.unit (s := S1024x1024) ![512 * b.val, 128 * g.val] S512x128.size (inb_qblk b g)) (shapeCast S512x128 w shapeCasts_S512x128_S512x128) Finset.univ (View.stores_vmem_bits_univ h_S512x128 rfl) (.inl rfl))
def storeL (b : Fin 2) (g : Fin 8) (w : FVec F S512x1 .f32) : BProg (F := F) PUnit := do
  let _ ← loadL b g
  Prog.lift (.store lM (Rect.unit (s := S1024x8) ![512 * b.val, g.val] S512x1.size (inb_lblk b g)) (shapeCast S512x1 w shapeCasts_S512x1_S512x1) Finset.univ (View.stores_vmem_bits_univ h_S512x1 rfl) (.inl rfl))
def storeQ (b : Fin 2) (g : Fin 8) (w : FVec F S512x128 .bf16) : BProg (F := F) PUnit := do
  let _ ← loadQ b g
  Prog.lift (.store qM (Rect.unit (s := S1024x1024) ![512 * b.val, 128 * g.val] S512x128.size (inb_qblk b g)) (shapeCast S512x128 w shapeCasts_S512x128_S512x128) Finset.univ (View.stores_vmem h_S512x128 ((Memref.isWhole_whole cc0_scratch0).storeExact_slice rfl _ (packed_qblk b g)) (fun _ => rfl)) (.inl rfl))

/-- The head of the whole problem that head `h` of direction `r` is. -/
def hd (r : Fin 2) (h : Fin 4) : Fin 8 := ⟨4 * r.val + h.val, by omega⟩

/-- One block of the first pass: it sets the row sums and the accumulator. -/
def firstBlk (r : Fin 2) (p : Fin 2 × Fin 4) : BProg (F := F) PUnit := do
  let q ← loadQ p.1 (hd r p.2)
  let k ← loadK r 0 p.1 p.2
  let v ← loadV r 0 p.1 p.2
  storeL p.1 (hd r p.2) (sumV (eV q k))
  storeA p.1 (hd r p.2) (pvV (eV q k) v)
/-- One block of a later pass: it adds to them. -/
def nextBlk (r s : Fin 2) (p : Fin 2 × Fin 4) : BProg (F := F) PUnit := do
  let q ← loadQ p.1 (hd r p.2)
  let k ← loadK r s p.1 p.2
  let v ← loadV r s p.1 p.2
  let l ← loadL p.1 (hd r p.2)
  storeL p.1 (hd r p.2) (addf l (sumV (eV q k)))
  let a ← loadA p.1 (hd r p.2)
  storeA p.1 (hd r p.2) (addf a (pvV (eV q k) v))
/-- One block of the end: the quotient, over the queries' buffer. -/
def quotBlk (p : Fin 2 × Fin 8) : BProg (F := F) PUnit := do
  let a ← loadA p.1 p.2
  let l ← loadL p.1 p.2
  storeQ p.1 p.2 (quotV a l)

def blks4 : List (Fin 2 × Fin 4) := [(0, 0), (0, 1), (0, 2), (0, 3), (1, 0), (1, 1), (1, 2), (1, 3)]
def blks8 : List (Fin 2 × Fin 8) := [(0, 0), (0, 1), (0, 2), (0, 3), (0, 4), (0, 5), (0, 6), (0, 7), (1, 0), (1, 1), (1, 2), (1, 3), (1, 4), (1, 5), (1, 6), (1, 7)]

/-- Send one slot to the neighbour. -/
def sendK (d : Dev nD) (h : Fin 3) (r : Fin 2) : BProg (F := F) PUnit :=
  Prog.lift (.enqueueDma (slotM (kM r) (sl h)) (.remote (Dev.tc (kDev d h r)) (slotM (kM r) (sl' h)) (.dma (semAt (ksS r) h))) (.dma (semAt (krS r) h))
    (((kM_whole r).wordExact_slice rfl _ (words_fp8 (sl h))).reshape _ _) (((kM_whole r).wordExact_slice rfl _ (words_fp8 (sl' h))).reshape _ _) ⟨⟨rfl, Or.inl rfl⟩, trivial⟩)
def sendV (d : Dev nD) (h : Fin 3) (r : Fin 2) : BProg (F := F) PUnit :=
  Prog.lift (.enqueueDma (slotM (vM r) (sl h)) (.remote (Dev.tc (vDev d h r)) (slotM (vM r) (sl' h)) (.dma (semAt (vsS r) h))) (.dma (semAt (vrS r) h))
    (((vM_whole r).wordExact_slice rfl _ (words_bf16 (sl h))).reshape _ _) (((vM_whole r).wordExact_slice rfl _ (words_bf16 (sl' h))).reshape _ _) ⟨⟨rfl, Or.inl rfl⟩, trivial⟩)
/-- Wait until one slot has left and the next one has come. -/
def waitK (h : Fin 3) (r : Fin 2) : BProg (F := F) PUnit := do
  Prog.lift (.waitDma2 (semAt (ksS r) h) (slotM (kM r) (sl' h)) (slotM (kM r) (sl h)) (((kM_whole r).wordExact_slice rfl _ (words_fp8 (sl' h))).reshape _ _) (((kM_whole r).wordExact_slice rfl _ (words_fp8 (sl h))).reshape _ _))
  Prog.lift (.waitDma2 (semAt (krS r) h) (slotM (kM r) (sl h)) (slotM (kM r) (sl' h)) (((kM_whole r).wordExact_slice rfl _ (words_fp8 (sl h))).reshape _ _) (((kM_whole r).wordExact_slice rfl _ (words_fp8 (sl' h))).reshape _ _))
def waitV (h : Fin 3) (r : Fin 2) : BProg (F := F) PUnit := do
  Prog.lift (.waitDma2 (semAt (vsS r) h) (slotM (vM r) (sl' h)) (slotM (vM r) (sl h)) (((vM_whole r).wordExact_slice rfl _ (words_bf16 (sl' h))).reshape _ _) (((vM_whole r).wordExact_slice rfl _ (words_bf16 (sl h))).reshape _ _))
  Prog.lift (.waitDma2 (semAt (vrS r) h) (slotM (vM r) (sl h)) (slotM (vM r) (sl' h)) (((vM_whole r).wordExact_slice rfl _ (words_bf16 (sl h))).reshape _ _) (((vM_whole r).wordExact_slice rfl _ (words_bf16 (sl' h))).reshape _ _))

/-- The four copies of a hop, and the waits for them. -/
def sends (d : Dev nD) (h : Fin 3) : BProg (F := F) PUnit := do
  sendK d h 0
  sendV d h 0
  sendK d h 1
  sendV d h 1
def waits (h : Fin 3) : BProg (F := F) PUnit := do
  waitK h 0
  waitV h 0
  waitK h 1
  waitV h 1
/-- Tell both neighbours that their next slot here is free, and wait until ours there are. -/
def credits (d : Dev nD) (i : Fin 2) : BProg (F := F) PUnit := do
  semSignalWord (cr1 d i) (crS 0) 1#32
  semSignalWord (cr2 d i) (crS 1) 1#32
  semWaitWord (crS 0) 1#32
  semWaitWord (crS 1) 1#32
/-- The first barrier. -/
def meet (d : Dev nD) : BProg (F := F) PUnit := do
  semSignalWord (bar1 d) barS 1#32
  semSignalWord (bar2 d) barS 1#32
  semWaitWord barS 2#32
/-- The last one. -/
def part (d : Dev nD) : BProg (F := F) PUnit := do
  semSignalWord (end1 d) endS 1#32
  semSignalWord (end2 d) endS 1#32
  semWaitWord endS 2#32

/-- Project, rotate and store this device's keys and values. -/
def fillKV (d : Dev nD) (x : Vec F S2x512x1024 .f32) (mk mv : Memref sig .tc .vmem S1024x1024 .f32) : BProg (F := F) PUnit := do
  let wk ← loadW mk
  steps (fun h => putK 0 h (kHead d (projV x wk) (hd 0 h))) [0, 1, 2, 3]
  steps (fun h => putK 1 h (kHead d (projV x wk) (hd 1 h))) [0, 1, 2, 3]
  let wv ← loadW mv
  putV 0 (vHalf (projV x wv) 0)
  putV 1 (vHalf (projV x wv) 1)
/-- The queries. -/
def fillQ (d : Dev nD) (x : Vec F S2x512x1024 .f32) (mq : Memref sig .tc .vmem S1024x1024 .f32) : BProg (F := F) PUnit := do
  let wq ← loadW mq
  steps (fun h => putQ h (qHead d (projV x wq) h)) [0, 1, 2, 3, 4, 5, 6, 7]
def first : BProg (F := F) PUnit := do
  steps (firstBlk 0) blks4
  steps (firstBlk 1) blks4
def next (s : Fin 2) : BProg (F := F) PUnit := do
  steps (nextBlk 0 s) blks4
  steps (nextBlk 1 s) blks4
/-- The result. -/
def finish (mo : Memref sig .tc .vmem S1024x1024 .f32) (mr : Memref sig .tc .vmem S2x512x1024 .f32) : BProg (F := F) PUnit := do
  let q ← Prog.lift (.load qM (Rect.unit (s := S1024x1024) ![0, 0] S1024x1024.size inb_S1024x1024_S1024x1024_0_0).toLoadRect (View.loadsAt_vmem h_S1024x1024))
  let wo ← loadW mo
  let _ ← loadX mr
  Prog.lift (.store mr (Rect.unit (s := S2x512x1024) ![0, 0, 0] S2x512x1024.size inb_S2x512x1024_S2x512x1024_0_0_0) (outV q wo) Finset.univ (View.stores_vmem_bits_univ h_S2x512x1024 rfl) (.inl rfl))

/-- The body. -/
def body (m0 : Memref sig .tc .vmem S2x512x1024 .f32) (m1 m2 m3 m4 : Memref sig .tc .vmem S1024x1024 .f32)
    (m5 : Memref sig .tc .vmem S2x512x1024 .f32) : BProg (F := F) PUnit := do
  let d ← Prog.lift .deviceId
  meet d
  let x ← loadX m0
  fillKV d x m2 m3
  sends d 0
  fillQ d x m1
  first
  waits 0
  credits d 0
  sends d 1
  next 1
  waits 1
  credits d 1
  sends d 2
  next 0
  waits 2
  next 1
  steps quotBlk blks8
  finish m4 m5
  part d

theorem body_eq (m0 : Memref sig .tc .vmem S2x512x1024 .f32) (h0 : m0.IsWhole) (m1 : Memref sig .tc .vmem S1024x1024 .f32) (h1 : m1.IsWhole)
    (m2 : Memref sig .tc .vmem S1024x1024 .f32) (h2 : m2.IsWhole) (m3 : Memref sig .tc .vmem S1024x1024 .f32) (h3 : m3.IsWhole)
    (m4 : Memref sig .tc .vmem S1024x1024 .f32) (h4 : m4.IsWhole) (m5 : Memref sig .tc .vmem S2x512x1024 .f32) (h5 : m5.IsWhole) :
    cc0__body (F := F) m0 h0 m1 h1 m2 h2 m3 h3 m4 h4 m5 h5
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _)
      cc0_scratch7 cc0_scratch8 cc0_scratch9 cc0_scratch10 cc0_scratch11 cc0_scratch12 cc0_scratch13 cc0_scratch14
      cc0_scratch15 cc0_scratch16 cc0_scoped0
    = body m0 m1 m2 m3 m4 m5 := by
  chain_rfl

end Cert.Attn

end
-- ==== Proof.Hold.lean ====
/- Holding part of a buffer, read tile by tile. `held` says that a device owns the elements of a memref that an
   embedding names and what they hold. `Tiles` says that rectangles of the memref, one for each key, are exactly those
   elements. A load of one rectangle then gives one tile and a store of one rectangle changes one tile. -/
module

public import proofs.«01_k».proof.Proof.Prog
public import Idealize.ShloMosaic.Lib.Pipeline.Launch
public import Idealize.ShloMosaic.Lib.Pipeline.Kit
public import Idealize.ShloMosaic.Lib.Pipeline.TalkSites
public import Idealize.ShloMosaic.Lib.ViewIndex
public import Idealize.ShloMosaic.Lib.ValueLayout
public import Idealize.ShloMosaic.Lib.Tactic

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal
open Facts₀ Facts

attribute [local instance] theFacts

variable {F : FTy → Type}

/-! ## Tiles -/

/-- Rectangles of the shape `s₀`, of sizes `sz` and one for each key, that are together the elements `e` names. -/
structure Tiles (s₀ s : Shape) (e : s.Idx ↪ s₀.Idx) (P : Type) (sz : Fin s₀.rank → ℕ) where
  /-- Where each begins. -/
  off : P → Fin s₀.rank → ℕ
  inb : ∀ p a, off p a + sz a ≤ s₀.size a
  /-- The element at a place of a tile. -/
  at_ : P → (⟨s₀.rank, sz⟩ : Shape).Idx → s.Idx
  /-- The tile of an element, and its place there. -/
  key : s.Idx → P
  loc : s.Idx → (⟨s₀.rank, sz⟩ : Shape).Idx
  at_key : ∀ i, at_ (key i) (loc i) = i
  key_at : ∀ p x, key (at_ p x) = p
  emb_at : ∀ p x, e (at_ p x) = (Rect.unit (s := s₀) (off p) sz (inb p)).emb x

namespace Tiles

variable {s₀ s : Shape} {e : s.Idx ↪ s₀.Idx} {P : Type} {sz : Fin s₀.rank → ℕ} (T : Tiles s₀ s e P sz) {α : Type}

/-- The rectangle of a key. -/
abbrev rect (p : P) : Rect s₀ := Rect.unit (s := s₀) (T.off p) sz (T.inb p)

/-- The contents with given tiles, and the tiles of given contents. -/
def tile (W : P → (⟨s₀.rank, sz⟩ : Shape).Idx → α) : s.Idx → α := fun i => W (T.key i) (T.loc i)
def cut (X : s.Idx → α) : P → (⟨s₀.rank, sz⟩ : Shape).Idx → α := fun p x => X (T.at_ p x)

theorem tile_cut (X : s.Idx → α) : T.tile (T.cut X) = X := funext fun i => congrArg X (T.at_key i)

theorem at_inj {p : P} {x y : (⟨s₀.rank, sz⟩ : Shape).Idx} (h : T.at_ p x = T.at_ p y) : x = y :=
  (T.rect p).emb.injective ((T.emb_at p x).symm.trans ((congrArg e h).trans (T.emb_at p y)))

theorem loc_at (p : P) (x : (⟨s₀.rank, sz⟩ : Shape).Idx) : T.loc (T.at_ p x) = x := by
  have h := T.at_key (T.at_ p x)
  rw [T.key_at] at h
  exact T.at_inj h

theorem cut_tile (W : P → (⟨s₀.rank, sz⟩ : Shape).Idx → α) : T.cut (T.tile W) = W := by
  funext p x
  unfold cut tile
  rw [T.key_at, T.loc_at]

end Tiles

variable {Ix : Type} [DecidableEq Ix] {U : Type} [URA U]

local notation "𝕄" => MT nD τ sig Ix (Elt F) ℕ U ℕ

/-! ## Holding the elements an embedding names -/

section Part

variable {sp : Space} {s₀ s : Shape} {φ : EltTy}

/-- The buffer's elements under the embedding. -/
def heldSet (m : Memref sig .tc sp s₀ φ) (e : s.Idx ↪ s₀.Idx) : Finset m.view.ty.Idx := Finset.univ.map (e.trans m.view.emb)

/-- Device `c` owns those elements at share `q`, and they hold `X`. -/
def held (c : Dev nD) (m : Memref sig .tc sp s₀ φ) (e : s.Idx ↪ s₀.Idx) (q : PosShare TreeShare) (X : s.Idx → Elt F φ) : sProp 𝕄 :=
  iprop(∃ f : Buf (Elt F) (m.view.loc (c : Thread nD τ)), ⌜∀ i, m.view.read (Elt F) f (e i) = X i⌝ ∗ (m.view.loc (c : Thread nD τ) ↦[heldSet m e]{q} f))

instance held_storable (c : Dev nD) (m : Memref sig .tc sp s₀ φ) (e : s.Idx ↪ s₀.Idx) (q : PosShare TreeShare) (X : s.Idx → Elt F φ) :
    BI.Storable (upEmb : UEmb _ 𝕄) (held (U := U) c m e q X) := by
  unfold held; infer_instance

/-- Held in two halves. -/
theorem held_halves (c : Dev nD) (m : Memref sig .tc sp s₀ φ) (e : s.Idx ↪ s₀.Idx) (X : s.Idx → Elt F φ) :
    (held (F := F) (Ix := Ix) (U := U) c m e fullShare X : sProp 𝕄) ⊣⊢ iprop(held c m e fullShare.left X ∗ held c m e fullShare.right X) := by
  unfold held
  constructor
  · iintro ⟨%f, %hf, H⟩
    ihave H2 := (pointsTo_share (PosShare.mem_left_op_right fullShare)).1 $$ H
    icases H2 with ⟨Hl, Hr⟩
    isplitl [Hl]
    · iexists f; isplitr
      · ipureintro; exact hf
      · iexact Hl
    · iexists f; isplitr
      · ipureintro; exact hf
      · iexact Hr
  · iintro ⟨⟨%f, %hf, Hl⟩, ⟨%g, %hg, Hr⟩⟩
    have h : ∀ i ∈ heldSet m e, g i = f i := fun i hi => by
      obtain ⟨x, -, rfl⟩ := Finset.mem_map.mp hi
      have h1 := hf x
      have h2 := hg x
      rw [View.read_apply] at h1 h2
      exact (cast_inj _).mp (h2.trans h1.symm)
    ihave Hr := (Entails.of_eq (pointsTo_congr (f := g) (g := f) h)) $$ Hr
    iexists f
    isplitr
    · ipureintro; exact hf
    · iapply (pointsTo_share (PosShare.mem_left_op_right fullShare)).2
      isplitl [Hl] <;> iassumption

theorem tile_subset {m : Memref sig .tc sp s₀ φ} {e : s.Idx ↪ s₀.Idx} {P : Type} {sz : Fin s₀.rank → ℕ} (T : Tiles s₀ s e P sz)
    (p : P) : (m.access (T.rect p)).set ⊆ heldSet m e := by
  intro i hi
  obtain ⟨x, -, rfl⟩ := Finset.mem_map.mp hi
  refine Finset.mem_map.mpr ⟨T.at_ p x, Finset.mem_univ _, ?_⟩
  show m.view.emb (e (T.at_ p x)) = m.view.emb ((T.rect p).emb x)
  rw [T.emb_at]

variable {e : s.Idx ↪ s₀.Idx} {P : Type} {sz : Fin s₀.rank → ℕ} (T : Tiles s₀ s e P sz) (m : Memref sig .tc sp s₀ φ)

/-- A tile is what the memref reads there. -/
theorem read_tile {f : m.view.ty.Contents (Elt F)} {X : s.Idx → Elt F φ} (h : ∀ i, m.view.read (Elt F) f (e i) = X i) (p : P) :
    m.view.readAt (Elt F) (T.rect p).toLoadRect f = T.cut X p := by
  funext x
  show m.view.read (Elt F) f ((T.rect p).emb x) = X (T.at_ p x)
  rw [← T.emb_at, h]

/-- Writing a tile changes that tile alone. -/
theorem read_put [DecidableEq P] {f : m.view.ty.Contents (Elt F)} {W : P → (⟨s₀.rank, sz⟩ : Shape).Idx → Elt F φ}
    (h : ∀ i, m.view.read (Elt F) f (e i) = T.tile W i) (p : P) (w : (⟨s₀.rank, sz⟩ : Shape).Idx → Elt F φ) (i : s.Idx) :
    m.view.read (Elt F) ((m.access (T.rect p)).write (Elt F) f w Finset.univ) (e i) = T.tile (Function.update W p w) i := by
  rw [View.read_apply]
  by_cases hk : T.key i = p
  · subst hk
    have he : m.view.emb (e i) = (m.access (T.rect (T.key i))).emb (T.loc i) := by
      show m.view.emb (e i) = m.view.emb ((T.rect (T.key i)).emb (T.loc i))
      rw [← T.emb_at, T.at_key]
    rw [he, View.write_emb_of_mem (v := m.access (T.rect (T.key i))) f w (Finset.mem_univ _)]
    unfold Tiles.tile
    rw [Function.update_self]
    exact cast_cast _ _ _
  · rw [View.write_of_not_mem (v := m.access (T.rect p)) f w _ (fun hi => hk (by
      obtain ⟨x, -, hx⟩ := Finset.mem_map.mp hi
      have h2 : e (T.at_ p x) = e i := by
        rw [T.emb_at]
        exact m.view.emb.injective hx
      rw [← e.injective h2, T.key_at])), ← View.read_apply, h]
    unfold Tiles.tile
    rw [Function.update_of_ne hk]

end Part

/-! ## Loads and stores -/

section Steps

variable {cs : CoreSpace} {s₀ s : Shape} {φ : EltTy} {e : s.Idx ↪ s₀.Idx} {P : Type} {sz : Fin s₀.rank → ℕ}
variable [FloatOps F] [Named F] (𝒱 : Variants)

theorem wp_get (T : Tiles s₀ s e P sz) (c : Dev nD) (m : Memref sig .tc cs s₀ φ) (p : P) {hl : m.view.LoadsAt (T.rect p).toLoadRect}
    {q : PosShare TreeShare} {X : s.Idx → Elt F φ} {α : Type} {Q : α → sProp 𝕄}
    {k : ((⟨s₀.rank, sz⟩ : Shape).Idx → Elt F φ) → Prog (TpuEff nD τ sig (Elt F) Λ₀ .tc) α} :
    (held c m e q X : sProp 𝕄)
      ⊢ iprop((held c m e q X -∗ wp frame (wpE (defs₀ (F := F)) 𝒱 (c : Thread nD τ) none) Set.univ (k (T.cut X p)) Q)
        -∗ wp frame (wpE (defs₀ (F := F)) 𝒱 (c : Thread nD τ) none) Set.univ (.op (.load m (T.rect p).toLoadRect hl) k) Q) := by
  unfold held
  iintro ⟨%f, %hf, H⟩ K
  iapply (wp_load 𝒱 (c : Thread nD τ) none Set.univ (m := m) (S := heldSet m e) (f := f) (by
    have := tile_subset (m := m) T p
    rw [View.set_slice] at this
    exact this)) $$ H
  iintro H
  rw [read_tile T m hf p]
  iapply K
  iexists f
  isplitr
  · ipureintro; exact hf
  · iexact H

theorem wp_put [DecidableEq P] (T : Tiles s₀ s e P sz) (c : Dev nD) (m : Memref sig .tc cs s₀ φ) (p : P) (w : (⟨s₀.rank, sz⟩ : Shape).Idx → Elt F φ)
    {hx : (m.access (T.rect p)).Stores Finset.univ} {hm : (Finset.univ : Finset (T.rect p).shape.Idx) = Finset.univ ∨ ∀ a, (T.rect p).stride a = 1}
    {W : P → (⟨s₀.rank, sz⟩ : Shape).Idx → Elt F φ} {α : Type} {Q : α → sProp 𝕄}
    {k : PUnit → Prog (TpuEff nD τ sig (Elt F) Λ₀ .tc) α} :
    (held c m e fullShare (T.tile W) : sProp 𝕄)
      ⊢ iprop((held c m e fullShare (T.tile (Function.update W p w)) -∗ wp frame (wpE (defs₀ (F := F)) 𝒱 (c : Thread nD τ) none) Set.univ (k ⟨⟩) Q)
        -∗ wp frame (wpE (defs₀ (F := F)) 𝒱 (c : Thread nD τ) none) Set.univ (.op (.store m (T.rect p) w Finset.univ hx hm) k) Q) := by
  unfold held
  iintro ⟨%f, %hf, H⟩ K
  iapply (wp_store 𝒱 (c : Thread nD τ) none Set.univ (m := m) (r := T.rect p) (Mk := Finset.univ) (S := heldSet m e) (f := f)
    (tile_subset (m := m) T p)) $$ H
  iintro H
  iapply K
  iexists ((m.access (T.rect p)).write (Elt F) f w Finset.univ)
  isplitr
  · ipureintro; exact read_put T m hf p w
  · iexact H

end Steps

end Cert.Attn

end
-- ==== Proof.Tiling.lean ====
/- The tilings of the kernel's buffers: the queries and the accumulator by heads and by blocks of rows, the row sums by
   blocks, one slot of a buffer of keys by heads, by blocks, and whole. -/
module

public import proofs.«01_k».proof.Proof.Hold

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3)
open Cert.KernelIdeal
open Facts₀ Facts

attribute [local instance] theFacts

variable {F : FTy → Type}

theorem idx2_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- The queries' buffer (and the accumulator) by heads. -/
def tHead : Tiles S1024x1024 S1024x1024 (Function.Embedding.refl _) (Fin 8) S1024x128.size where
  off p := ![0, 128 * p.val]
  inb := inb_qhead
  at_ p x := ix2 ⟨(x 0).val, (x 0).isLt⟩ ⟨128 * p.val + (x 1).val, by have h : (x 1).val < 128 := (x 1).isLt; omega⟩
  key i := ⟨(i 1).val / 128, by have h : (i 1).val < 1024 := (i 1).isLt; omega⟩
  loc i := ix2 ⟨(i 0).val, (i 0).isLt⟩ ⟨(i 1).val % 128, Nat.mod_lt _ (by decide)⟩
  at_key i := idx2_ext rfl (Nat.div_add_mod _ _)
  key_at p x := Fin.ext (by
    show (128 * p.val + (x 1).val) / 128 = p.val
    have h : (x 1).val < 128 := (x 1).isLt
    omega)
  emb_at p x := idx2_ext (by
    show (x 0).val = 0 + 1 * (x 0).val
    omega) (by
    show 128 * p.val + (x 1).val = 128 * p.val + 1 * (x 1).val
    omega)

/-- By blocks of 512 rows of one head. -/
def tBlk : Tiles S1024x1024 S1024x1024 (Function.Embedding.refl _) (Fin 2 × Fin 8) S512x128.size where
  off p := ![512 * p.1.val, 128 * p.2.val]
  inb p := inb_qblk p.1 p.2
  at_ p x := ix2 ⟨512 * p.1.val + (x 0).val, by have h : (x 0).val < 512 := (x 0).isLt; omega⟩
    ⟨128 * p.2.val + (x 1).val, by have h : (x 1).val < 128 := (x 1).isLt; omega⟩
  key i := (⟨(i 0).val / 512, by have h : (i 0).val < 1024 := (i 0).isLt; omega⟩, ⟨(i 1).val / 128, by have h : (i 1).val < 1024 := (i 1).isLt; omega⟩)
  loc i := ix2 ⟨(i 0).val % 512, Nat.mod_lt _ (by decide)⟩ ⟨(i 1).val % 128, Nat.mod_lt _ (by decide)⟩
  at_key i := idx2_ext (Nat.div_add_mod _ _) (Nat.div_add_mod _ _)
  key_at p x := Prod.ext (Fin.ext (by
    show (512 * p.1.val + (x 0).val) / 512 = p.1.val
    have h : (x 0).val < 512 := (x 0).isLt
    omega)) (Fin.ext (by
    show (128 * p.2.val + (x 1).val) / 128 = p.2.val
    have h : (x 1).val < 128 := (x 1).isLt
    omega))
  emb_at p x := idx2_ext (by
    show 512 * p.1.val + (x 0).val = 512 * p.1.val + 1 * (x 0).val
    omega) (by
    show 128 * p.2.val + (x 1).val = 128 * p.2.val + 1 * (x 1).val
    omega)

/-- The row sums by blocks. -/
def tSum : Tiles S1024x8 S1024x8 (Function.Embedding.refl _) (Fin 2 × Fin 8) S512x1.size where
  off p := ![512 * p.1.val, p.2.val]
  inb p := inb_lblk p.1 p.2
  at_ p x := ix2 ⟨512 * p.1.val + (x 0).val, by have h : (x 0).val < 512 := (x 0).isLt; omega⟩ p.2
  key i := (⟨(i 0).val / 512, by have h : (i 0).val < 1024 := (i 0).isLt; omega⟩, ⟨(i 1).val, (i 1).isLt⟩)
  loc i := ix2 ⟨(i 0).val % 512, Nat.mod_lt _ (by decide)⟩ ⟨0, by decide⟩
  at_key i := idx2_ext (Nat.div_add_mod _ _) rfl
  key_at p x := Prod.ext (Fin.ext (by
    show (512 * p.1.val + (x 0).val) / 512 = p.1.val
    have h : (x 0).val < 512 := (x 0).isLt
    omega)) rfl
  emb_at p x := idx2_ext (by
    show 512 * p.1.val + (x 0).val = 512 * p.1.val + 1 * (x 0).val
    omega) (by
    show p.2.val = p.2.val + 1 * (x 1).val
    have h : (x 1).val < 1 := (x 1).isLt
    omega)

/-- The elements of one slot of a two-slot buffer. -/
def slotE (s : Fin 2) : S1024x512.Idx ↪ S2x1024x512.Idx where
  toFun i := ix3 s ⟨(i 0).val, (i 0).isLt⟩ ⟨(i 1).val, (i 1).isLt⟩
  inj' i j h := idx2_ext (congrArg (fun x : S2x1024x512.Idx => (x 1).val) h) (congrArg (fun x : S2x1024x512.Idx => (x 2).val) h)

/-- Slot 0 by heads of keys. -/
def tKey : Tiles S2x1024x512 S1024x512 (slotE 0) (Fin 4) S1x1024x128.size where
  off p := ![0, 0, 128 * p.val]
  inb := inb_khead
  at_ p x := ix2 ⟨(x 1).val, (x 1).isLt⟩ ⟨128 * p.val + (x 2).val, by have h : (x 2).val < 128 := (x 2).isLt; omega⟩
  key i := ⟨(i 1).val / 128, by have h : (i 1).val < 512 := (i 1).isLt; omega⟩
  loc i := ix3 ⟨0, by decide⟩ ⟨(i 0).val, (i 0).isLt⟩ ⟨(i 1).val % 128, Nat.mod_lt _ (by decide)⟩
  at_key i := idx2_ext rfl (Nat.div_add_mod _ _)
  key_at p x := Fin.ext (by
    show (128 * p.val + (x 2).val) / 128 = p.val
    have h : (x 2).val < 128 := (x 2).isLt
    omega)
  emb_at p x := Shape.idx3_ext (by
    show 0 = 0 + 1 * (x 0).val
    have h : (x 0).val < 1 := (x 0).isLt
    omega) (by
    show (x 1).val = 0 + 1 * (x 1).val
    omega) (by
    show 128 * p.val + (x 2).val = 128 * p.val + 1 * (x 2).val
    omega)

/-- Slot 0 whole. -/
def tSlot : Tiles S2x1024x512 S1024x512 (slotE 0) Unit S1x1024x512.size where
  off _ := ![0, 0, 0]
  inb _ := inb_slot 0
  at_ _ x := ix2 ⟨(x 1).val, (x 1).isLt⟩ ⟨(x 2).val, (x 2).isLt⟩
  key _ := ()
  loc i := ix3 ⟨0, by decide⟩ ⟨(i 0).val, (i 0).isLt⟩ ⟨(i 1).val, (i 1).isLt⟩
  at_key i := idx2_ext rfl rfl
  key_at _ _ := rfl
  emb_at p x := Shape.idx3_ext (by
    show 0 = 0 + 1 * (x 0).val
    have h : (x 0).val < 1 := (x 0).isLt
    omega) (by
    show (x 1).val = 0 + 1 * (x 1).val
    omega) (by
    show (x 2).val = 0 + 1 * (x 2).val
    omega)

/-- A slot by blocks of 512 rows of one head. -/
def tKB (s : Fin 2) : Tiles S2x1024x512 S1024x512 (slotE s) (Fin 2 × Fin 4) S1x512x128.size where
  off p := ![s.val, 512 * p.1.val, 128 * p.2.val]
  inb p := inb_kblk s p.1 p.2
  at_ p x := ix2 ⟨512 * p.1.val + (x 1).val, by have h : (x 1).val < 512 := (x 1).isLt; omega⟩
    ⟨128 * p.2.val + (x 2).val, by have h : (x 2).val < 128 := (x 2).isLt; omega⟩
  key i := (⟨(i 0).val / 512, by have h : (i 0).val < 1024 := (i 0).isLt; omega⟩, ⟨(i 1).val / 128, by have h : (i 1).val < 512 := (i 1).isLt; omega⟩)
  loc i := ix3 ⟨0, by decide⟩ ⟨(i 0).val % 512, Nat.mod_lt _ (by decide)⟩ ⟨(i 1).val % 128, Nat.mod_lt _ (by decide)⟩
  at_key i := idx2_ext (Nat.div_add_mod _ _) (Nat.div_add_mod _ _)
  key_at p x := Prod.ext (Fin.ext (by
    show (512 * p.1.val + (x 1).val) / 512 = p.1.val
    have h : (x 1).val < 512 := (x 1).isLt
    omega)) (Fin.ext (by
    show (128 * p.2.val + (x 2).val) / 128 = p.2.val
    have h : (x 2).val < 128 := (x 2).isLt
    omega))
  emb_at p x := Shape.idx3_ext (by
    show s.val = s.val + 1 * (x 0).val
    have h : (x 0).val < 1 := (x 0).isLt
    omega) (by
    show 512 * p.1.val + (x 1).val = 512 * p.1.val + 1 * (x 1).val
    omega) (by
    show 128 * p.2.val + (x 2).val = 128 * p.2.val + 1 * (x 2).val
    omega)

/-- The block a pass reads, whichever slot it lies in. -/
def kBlk {φ : EltTy} (X : S1024x512.Idx → Elt F φ) (p : Fin 2 × Fin 4) : S1x512x128.Idx → Elt F φ := (tKB 0).cut X p

/-! ## A slot as a memref of its own -/

theorem slot_emb {φ : EltTy} (m : Memref sig .tc .vmem S2x1024x512 φ) (s : Fin 2) (i : S1024x512.Idx) :
    (slotM m s).view.emb i = m.view.emb (slotE s i) := by
  show m.view.emb ((Rect.unit (s := S2x1024x512) ![s.val, 0, 0] S1x1024x512.size (inb_slot s)).emb (Shape.reshapeEquiv _ i)) = _
  congr 1
  have h : Shape.reshapeEquiv squeezes_S1x1024x512_S1024x512.numel_eq i = ix3 (⟨0, Nat.one_pos⟩ : Fin 1) (i 0) (i 1) :=
    (congrArg _ (eq_ix2 i)).trans (ValueIdx.reshapeEquiv_ix2_1ab (a := 1024) (b := 512) squeezes_S1x1024x512_S1024x512.numel_eq (i 0) (i 1))
  refine Shape.idx3_ext ?_ ?_ ?_
  · show s.val + 1 * (Shape.reshapeEquiv _ i 0).val = s.val
    rw [h]
    show s.val + 1 * 0 = s.val
    omega
  · show 0 + 1 * (Shape.reshapeEquiv _ i 1).val = (i 0).val
    rw [h]
    show 0 + 1 * (i 0).val = (i 0).val
    omega
  · show 0 + 1 * (Shape.reshapeEquiv _ i 2).val = (i 1).val
    rw [h]
    show 0 + 1 * (i 1).val = (i 1).val
    omega

theorem slot_read {φ : EltTy} (m : Memref sig .tc .vmem S2x1024x512 φ) (s : Fin 2) (f : m.view.ty.Contents (Elt F)) (i : S1024x512.Idx) :
    (slotM m s).view.read (Elt F) f i = m.view.read (Elt F) f (slotE s i) :=
  congrArg (fun j => cast (congrArg (Elt F) m.view.elt_eq) (f j)) (slot_emb m s i)

variable {Ix : Type} [DecidableEq Ix] {U : Type} [URA U]

local notation "𝕄" => MT nD τ sig Ix (Elt F) ℕ U ℕ

/-- Holding a slot is owning it. -/
theorem held_slot {φ : EltTy} (c : Dev nD) (m : Memref sig .tc .vmem S2x1024x512 φ) (s : Fin 2) (q : PosShare TreeShare) (X : S1024x512.Idx → Elt F φ) :
    (held c m (slotE s) q X : sProp 𝕄) = owns (c : Thread nD τ) (slotM m s) q X := by
  unfold held owns
  have hS : (slotM m s).view.set = heldSet m (slotE s) := by
    unfold View.set heldSet
    congr 1
    exact Function.Embedding.ext (slot_emb m s)
  have hr : ∀ f : Buf (Elt F) (m.view.loc (c : Thread nD τ)), (∀ i, m.view.read (Elt F) f (slotE s i) = X i) = ((slotM m s).view.read (Elt F) f = X) :=
    fun f => propext ⟨fun h => funext fun i => (slot_read m s f i).trans (h i), fun h i => (slot_read m s f i).symm.trans (congrFun h i)⟩
  rw [hS]
  exact congrArg _ (funext fun f => by rw [hr f]; rfl)

end Cert.Attn

end
-- ==== Proof.Protocol.lean ====
/- The ring's protocol: the semaphore cells of a device, the duties that each cell's rounds have, what each duty hands
   over, and what a device owes at the start, in the order in which it pays. It is stated for any contents `blk` of the
   blocks that travel. -/
module

public import proofs.«01_k».proof.Proof.Tiling
public import proofs.«01_k».proof.Proof.Gen.KernelIdeal.Launch
public import Idealize.ShloMosaic.Lib.Rounds
public import Idealize.ShloMosaic.Lib.Pipeline.SiteBlocks
public import Idealize.ShloMosaic.Lib.Pipeline.BigSepL
public import Mathlib.Tactic.DeriveFintype

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Cert.KernelIdeal
open Facts₀ Facts

attribute [local instance] theFacts

variable {F : FTy → Type}

/-! ## The ring -/

/-- The right and the left neighbour; the neighbour a direction goes to and the one it comes from. -/
def nxt (c : Dev nD) : Dev nD := ⟨(c.val + 1) % 4, Nat.mod_lt _ (by decide)⟩
def prv (c : Dev nD) : Dev nD := ⟨(c.val + 3) % 4, Nat.mod_lt _ (by decide)⟩
def fwd : Fin 2 → Dev nD → Dev nD
  | 0 => nxt
  | 1 => prv
def back : Fin 2 → Dev nD → Dev nD
  | 0 => prv
  | 1 => nxt
theorem fwd_back (r : Fin 2) (c : Dev nD) : fwd r (back r c) = c := by revert r c; decide
theorem back_fwd (r : Fin 2) (c : Dev nD) : back r (fwd r c) = c := by revert r c; decide

/-- The device whose block device `c` has after `n` hops. -/
def org (r : Fin 2) : ℕ → Dev nD → Dev nD
  | 0, c => c
  | n + 1, c => org r n (back r c)

theorem bar1_eq (d : Dev nD) : bar1 d = back 0 d := Fin.ext (Gen.k0_dev1_eq d)
theorem bar2_eq (d : Dev nD) : bar2 d = back 1 d := Fin.ext (Gen.k0_dev2_eq d)
theorem end1_eq (d : Dev nD) : end1 d = back 0 d := Fin.ext (Gen.k0_dev19_eq d)
theorem end2_eq (d : Dev nD) : end2 d = back 1 d := Fin.ext (Gen.k0_dev20_eq d)
theorem cr1_eq (d : Dev nD) : ∀ i, cr1 d i = back 0 d
  | 0 => Fin.ext (Gen.k0_dev7_eq d)
  | 1 => Fin.ext (Gen.k0_dev13_eq d)
theorem cr2_eq (d : Dev nD) : ∀ i, cr2 d i = back 1 d
  | 0 => Fin.ext (Gen.k0_dev8_eq d)
  | 1 => Fin.ext (Gen.k0_dev14_eq d)
theorem kDev_eq (d : Dev nD) : ∀ h r, kDev d h r = fwd r d
  | 0, 0 => Fin.ext (Gen.k0_dev3_eq d)
  | 0, 1 => Fin.ext (Gen.k0_dev5_eq d)
  | 1, 0 => Fin.ext (Gen.k0_dev9_eq d)
  | 1, 1 => Fin.ext (Gen.k0_dev11_eq d)
  | 2, 0 => Fin.ext (Gen.k0_dev15_eq d)
  | 2, 1 => Fin.ext (Gen.k0_dev17_eq d)
theorem vDev_eq (d : Dev nD) : ∀ h r, vDev d h r = fwd r d
  | 0, 0 => Fin.ext (Gen.k0_dev4_eq d)
  | 0, 1 => Fin.ext (Gen.k0_dev6_eq d)
  | 1, 0 => Fin.ext (Gen.k0_dev10_eq d)
  | 1, 1 => Fin.ext (Gen.k0_dev12_eq d)
  | 2, 0 => Fin.ext (Gen.k0_dev16_eq d)
  | 2, 1 => Fin.ext (Gen.k0_dev18_eq d)

/-! ## Keys and values alike -/

/-- The element type of what travels: keys (`false`) and values (`true`). -/
@[reducible] def elt : Bool → EltTy
  | false => .fp8e4m3
  | true => .bf16
def bufM : (t : Bool) → Fin 2 → Memref sig .tc .vmem S2x1024x512 (elt t)
  | false => kM
  | true => vM
def sndS : Bool → Fin 2 → DmaSems sig S3
  | false => ksS
  | true => vsS
def rcvS : Bool → Fin 2 → DmaSems sig S3
  | false => krS
  | true => vrS
/-- What a copy of one slot counts. -/
def cnt (t : Bool) : ℕ := (slotM (bufM t 0) 0).view.dmaCredit
theorem cnt_pos : ∀ t, 0 < cnt t
  | false => View.dmaCredit_pos _ (by decide)
  | true => View.dmaCredit_pos _ (by decide)
theorem cnt_eq : ∀ (t : Bool) (r s : Fin 2), (slotM (bufM t r) s).view.dmaCredit = cnt t
  | false, 0, _ => rfl
  | false, 1, _ => rfl
  | true, 0, _ => rfl
  | true, 1, _ => rfl

/-! ## The cells -/

/-- The kernel's own semaphores that are waited for: the last barrier, the credits of a direction, and of each copy the
    sender's and the receiver's. -/
inductive Own
  | fin
  | cr (r : Fin 2)
  | snd (t : Bool) (h : Fin 3) (r : Fin 2)
  | rcv (t : Bool) (h : Fin 3) (r : Fin 2)
  deriving DecidableEq, Fintype

/-- Those and the first barrier. -/
abbrev Kd : Type := Unit ⊕ Own

def ownSem : Own → SemLoc sig
  | .fin => .reg endS
  | .cr r => .reg (crS r)
  | .snd t h r => .dma (semAt (sndS t r) h)
  | .rcv t h r => .dma (semAt (rcvS t r) h)
def semOf : Kd → SemLoc sig
  | .inl _ => .reg barS
  | .inr k => ownSem k
def kcell (ck : Dev nD × Kd) : GSem nD τ sig := ((ck.1 : Thread nD τ), semOf ck.2)

theorem semOf_injective : Function.Injective semOf := by decide
theorem kcell_injective : Function.Injective kcell := by
  intro a b h
  have h1 : a.1 = b.1 := congrArg (fun g : GSem nD τ sig => g.1.1) h
  have h2 : semOf a.2 = semOf b.2 := congrArg Prod.snd h
  exact Prod.ext h1 (semOf_injective h2)

open Classical in
/-- The device and the kind of a cell, if it is one of these. -/
def dec (g : GSem nD τ sig) : Option (Dev nD × Kd) := if h : ∃ ck, kcell ck = g then some h.choose else none
theorem dec_kcell (ck : Dev nD × Kd) : dec (kcell ck) = some ck := by
  have h : ∃ x, kcell x = kcell ck := ⟨ck, rfl⟩
  unfold dec
  rw [dif_pos h, kcell_injective h.choose_spec]

/-! ## The ghost state -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The duties -/

def dir (b : Bool) : Fin 2 := if b then 1 else 0

/-- The duties of a round. -/
def dutK : Kd → ℕ → Finset Bool
  | .inl _, 0 => {false, true}
  | .inr .fin, 0 => {false, true}
  | .inr (.cr _), 0 => {false}
  | .inr (.cr _), 1 => {false}
  | .inr (.snd _ _ _), 0 => {false}
  | .inr (.rcv _ _ _), 0 => {false}
  | _, _ => ∅
def amtK : Kd → ℕ
  | .inl _ => 1
  | .inr .fin => 1
  | .inr (.cr _) => 1
  | .inr (.snd t _ _) => cnt t
  | .inr (.rcv t _ _) => cnt t
theorem amtK_pos : ∀ k, 0 < amtK k
  | .inl _ => Nat.one_pos
  | .inr .fin => Nat.one_pos
  | .inr (.cr _) => Nat.one_pos
  | .inr (.snd t _ _) => cnt_pos t
  | .inr (.rcv t _ _) => cnt_pos t
/-- The number of rounds. -/
def lastK : Kd → ℕ
  | .inr (.cr _) => 2
  | _ => 1
theorem dutK_last : ∀ (k : Kd) (r : ℕ), lastK k ≤ r → dutK k r = ∅
  | .inl _, 0, h => absurd h (Nat.not_succ_le_zero _)
  | .inr .fin, 0, h => absurd h (Nat.not_succ_le_zero _)
  | .inr (.cr _), 0, h => absurd h (Nat.not_succ_le_zero _)
  | .inr (.cr _), 1, h => absurd h (show ¬ ((2 : ℕ) ≤ 1) by decide)
  | .inr (.snd _ _ _), 0, h => absurd h (Nat.not_succ_le_zero _)
  | .inr (.rcv _ _ _), 0, h => absurd h (Nat.not_succ_le_zero _)
  | .inl _, _ + 1, _ => rfl
  | .inr .fin, _ + 1, _ => rfl
  | .inr (.cr _), _ + 2, _ => rfl
  | .inr (.snd _ _ _), _ + 1, _ => rfl
  | .inr (.rcv _ _ _), _ + 1, _ => rfl

/-- The slot that a credit frees. -/
def crSlot : ℕ → Fin 2
  | 0 => 0
  | _ => 1
/-- The credit round that the sender of a hop has passed. -/
def fbk : Fin 3 → ℕ
  | 0 => 0
  | 1 => 1
  | 2 => 0

section Contents

variable (blk : (t : Bool) → Dev nD → Fin 2 → S1024x512.Idx → Elt F (elt t))

/-- A slot of the device, whatever it holds. -/
def free (c : Dev nD) (t : Bool) (r s : Fin 2) : sProp 𝕄 := iprop(∃ X, held c (bufM t r) (slotE s) fullShare X)
instance free_storable (c : Dev nD) (t : Bool) (r s : Fin 2) : BI.Storable (upEmb : UEmb _ 𝕄) (free (F := F) c t r s) := by
  unfold free; infer_instance
def free2 (c : Dev nD) (r s : Fin 2) : sProp 𝕄 := iprop(free c false r s ∗ free c true r s)
instance free2_storable (c : Dev nD) (r s : Fin 2) : BI.Storable (upEmb : UEmb _ 𝕄) (free2 (F := F) c r s) := by
  unfold free2; infer_instance

/-- What a duty of device `c`'s cell hands to it. -/
def pay (c : Dev nD) : Kd → ℕ → Bool → sProp 𝕄
  | .inl _, _, b => free2 (fwd (dir b) c) (dir b) 1
  | .inr .fin, _, _ => iprop(emp)
  | .inr (.cr r), i, _ => free2 (fwd r c) r (crSlot i)
  | .inr (.snd t h r), _, _ => held c (bufM t r) (slotE (sl h)) fullShare.left (blk t (org r h.val c) r)
  | .inr (.rcv t h r), _, _ => iprop(held c (bufM t r) (slotE (sl' h)) fullShare (blk t (org r (h.val + 1) c) r)
      ∗ reached ER (kcell (back r c, .inr (.cr r))) (fbk h))
instance pay_storable (c : Dev nD) : ∀ (k : Kd) (i : ℕ) (b : Bool), BI.Storable (upEmb : UEmb _ 𝕄) (pay (F := F) blk c k i b)
  | .inl _, _, _ => by unfold pay; infer_instance
  | .inr .fin, _, _ => by unfold pay; infer_instance
  | .inr (.cr _), _, _ => by unfold pay; infer_instance
  | .inr (.snd _ _ _), _, _ => by unfold pay; infer_instance
  | .inr (.rcv _ _ _), _, _ => by unfold pay; infer_instance

/-- The schedule. -/
def Rd : Rounds.Schedule (GSem nD τ sig) Bool 𝕄 where
  duties g r := (dec g).elim ∅ fun ck => dutK ck.2 r
  amount g _ _ := (dec g).elim 1 fun ck => amtK ck.2
  payload g r d := (dec g).elim iprop(emp) fun ck => pay blk ck.1 ck.2 r d
  amount_pos g _ _ _ := by
    cases dec g with
    | none => exact Nat.one_pos
    | some ck => exact amtK_pos ck.2
  unitless _ := False

instance Rd_payload_storable (g : GSem nD τ sig) (r : ℕ) (d : Bool) : BI.Storable (upEmb : UEmb _ 𝕄) ((Rd (F := F) blk).payload g r d) := by
  show BI.Storable upEmb ((dec g).elim iprop(emp) fun ck => pay blk ck.1 ck.2 r d)
  cases dec g with
  | none => exact (inferInstance : BI.Storable (upEmb : UEmb _ 𝕄) iprop(emp))
  | some ck => exact pay_storable blk ck.1 ck.2 r d

theorem Rd_duties (ck : Dev nD × Kd) (r : ℕ) : (Rd (F := F) blk).duties (kcell ck) r = dutK ck.2 r := by
  dsimp only [Rd]; rw [dec_kcell]; rfl
theorem Rd_amount (ck : Dev nD × Kd) (r : ℕ) (d : Bool) : (Rd (F := F) blk).amount (kcell ck) r d = amtK ck.2 := by
  dsimp only [Rd]; rw [dec_kcell]; rfl
theorem Rd_payload (ck : Dev nD × Kd) (r : ℕ) (d : Bool) : (Rd (F := F) blk).payload (kcell ck) r d = pay blk ck.1 ck.2 r d := by
  dsimp only [Rd]; rw [dec_kcell]; rfl
theorem Rd_expect (ck : Dev nD × Kd) (r : ℕ) : (Rd (F := F) blk).expect (kcell ck) r = (dutK ck.2 r).card * amtK ck.2 := by
  unfold Schedule.expect Schedule.amountOf
  rw [Rd_duties, Finset.sum_congr rfl fun d _ => Rd_amount blk ck r d, Finset.sum_const, smul_eq_mul]
theorem Rd_last (ck : Dev nD × Kd) : ∀ r, lastK ck.2 ≤ r → (Rd (F := F) blk).duties (kcell ck) r = ∅ :=
  fun r h => (Rd_duties blk ck r).trans (dutK_last ck.2 r h)

/-! ## What every device knows -/

/-- The cells' records, and that each has begun. -/
def records (K : Dev nD × Kd → ℕ) : sProp 𝕄 :=
  iprop((bigSep Finset.univ fun ck : Dev nD × Kd => cellInv ER (Rd blk) (K ck) (kcell ck))
    ∗ bigSep Finset.univ fun ck : Dev nD × Kd => reached ER (kcell ck) 0)
instance records_persistent (K : Dev nD × Kd → ℕ) : BI.Persistent (records (F := F) blk K) := by unfold records; infer_instance

theorem records_inv (K : Dev nD × Kd → ℕ) (ck : Dev nD × Kd) : (records (F := F) blk K) ⊢ cellInv ER (Rd blk) (K ck) (kcell ck) := by
  unfold records
  have h : (bigSep Finset.univ fun ck : Dev nD × Kd => (cellInv ER (Rd blk) (K ck) (kcell ck) : sProp 𝕄)) ⊢ cellInv ER (Rd blk) (K ck) (kcell ck) :=
    bigSep_elim (Finset.mem_univ ck)
  iintro ⟨H, -⟩
  iapply h
  iexact H
theorem records_reached (K : Dev nD × Kd → ℕ) (ck : Dev nD × Kd) : (records (F := F) blk K) ⊢ reached ER (kcell ck) 0 := by
  unfold records
  have h : (bigSep Finset.univ fun ck : Dev nD × Kd => (reached ER (kcell ck) 0 : sProp 𝕄)) ⊢ reached ER (kcell ck) 0 :=
    bigSep_elim (Finset.mem_univ ck)
  iintro ⟨-, H⟩
  iapply h
  iexact H

end Contents

/-! ## The tokens a device pays with -/

inductive Tk
  | bar (b : Bool)
  | fin (b : Bool)
  | cr (r i : Fin 2)
  | snd (t : Bool) (h : Fin 3) (r : Fin 2)
  | rcv (t : Bool) (h : Fin 3) (r : Fin 2)
  deriving DecidableEq, Fintype

namespace Tk

/-- The cell's kind, the round and the duty it pays. -/
def kd : Tk → Kd
  | .bar _ => .inl ()
  | .fin _ => .inr .fin
  | .cr r _ => .inr (.cr r)
  | .snd t h r => .inr (.snd t h r)
  | .rcv t h r => .inr (.rcv t h r)
def rnd : Tk → ℕ
  | .cr _ i => i.val
  | _ => 0
def duty : Tk → Bool
  | .bar b => b
  | .fin b => b
  | _ => false
/-- The device it pays. -/
def tgt : Tk → Dev nD → Dev nD
  | .bar b => back (dir b)
  | .fin b => back (dir b)
  | .cr r _ => back r
  | .snd _ _ _ => id
  | .rcv _ _ r => fwd r
/-- The device that pays it. -/
def payer : Tk → Dev nD → Dev nD
  | .bar b => fwd (dir b)
  | .fin b => fwd (dir b)
  | .cr r _ => fwd r
  | .snd _ _ _ => id
  | .rcv _ _ r => back r
/-- The level of the wait for it. -/
def lvl : Tk → ℕ
  | .bar _ => 1
  | .fin _ => 7
  | .cr _ i => 3 + 2 * i.val
  | .snd _ _ _ => 0
  | .rcv _ h _ => 2 + 2 * h.val

theorem tgt_payer : ∀ (t : Tk) (c : Dev nD), t.tgt (t.payer c) = c
  | .bar _, c => back_fwd _ c
  | .fin _, c => back_fwd _ c
  | .cr _ _, c => back_fwd _ c
  | .snd _ _ _, _ => rfl
  | .rcv _ _ _, c => fwd_back _ c
theorem payer_tgt : ∀ (t : Tk) (c : Dev nD), t.payer (t.tgt c) = c
  | .bar _, c => fwd_back _ c
  | .fin _, c => fwd_back _ c
  | .cr _ _, c => fwd_back _ c
  | .snd _ _ _, _ => rfl
  | .rcv _ _ _, c => back_fwd _ c
theorem lvl_lt (t : Tk) : t.lvl < 8 := by revert t; decide
theorem duty_mem (t : Tk) : t.duty ∈ dutK t.kd t.rnd := by
  cases t with
  | bar b => cases b <;> decide
  | fin b => cases b <;> decide
  | cr r i =>
    match i with
    | 0 => exact Finset.mem_singleton_self _
    | 1 => exact Finset.mem_singleton_self _
  | snd => exact Finset.mem_singleton_self _
  | rcv => exact Finset.mem_singleton_self _
theorem key_injective : Function.Injective fun t : Tk => (t.kd, t.rnd, t.duty) := by decide

/-- The cell that device `d` pays. -/
def cell (t : Tk) (d : Dev nD) : GSem nD τ sig := kcell (t.tgt d, t.kd)
def amt (t : Tk) : ℕ := amtK t.kd

end Tk

/-- The copies of one hop, in order. -/
def hop (h : Fin 3) : List Tk := [.rcv false h 0, .rcv true h 0, .rcv false h 1, .rcv true h 1]
/-- What a device owes at the start, in the order of its payments. -/
def dues : List Tk :=
  [.bar false, .bar true] ++ hop 0 ++ [.cr 0 0, .cr 1 0] ++ hop 1 ++ [.cr 0 1, .cr 1 1] ++ hop 2 ++ [.fin false, .fin true]

/-- What device `d` owes that has a list to pay. -/
def owe (d : Dev nD) : List Tk → CellTallies nD τ sig ℕ
  | [] => 0
  | t :: l => owe d l + tallyAt (t.cell d) t.lvl t.amt

theorem owe_pos (d : Dev nD) : ∀ (l : List Tk) (g : GSem nD τ sig) (i : ℕ), 0 < owe d l g i → ∃ t ∈ l, g = t.cell d ∧ i = t.lvl
  | [], _, _, h => absurd h (Nat.lt_irrefl 0)
  | t :: l, g, i, h => by
    change 0 < (owe d l + tallyAt (t.cell d) t.lvl t.amt) g i at h
    rw [Pi.add_apply, Finsupp.add_apply] at h
    rcases Nat.add_pos_iff_pos_or_pos.mp h with h | h
    · obtain ⟨t', h1, h2⟩ := owe_pos d l g i h
      exact ⟨t', List.mem_cons_of_mem _ h1, h2⟩
    · exact ⟨t, List.mem_cons_self, Pipeline.tallyAt_pos h⟩

theorem owe_above (d : Dev nD) (l : List Tk) (i : ℕ) (h : ∀ t ∈ l, i < t.lvl) (g : GSem nD τ sig) (k : ℕ) (hk : 0 < owe d l g k) :
    k ∈ L 8 g ∧ i < k := by
  obtain ⟨t, ht, rfl, rfl⟩ := owe_pos d l g k hk
  exact ⟨mem_L _ _ t.lvl_lt, h t ht⟩

/-- A wait at a level below all that is still owed. -/
theorem owe_mayWait (d : Dev nD) (s : SemLoc sig) (l : List Tk) (i : ℕ) (hi : i < 8) (h : ∀ t ∈ l, i < t.lvl) :
    (levAts (L 8) lv : sProp 𝕄) ⊢ MayWait (d : Thread nD τ) s i (owe d l) :=
  mayWait_of hi d s _ (owe_above d l i h)

/-- The credits that a device has at the start, one for each payment to it. -/
theorem launchCred_owe (c : Dev nD) : ∀ l : List Tk,
    (Pipeline.launchCred (fun d => owe d l) c : sProp 𝕄) ⊢ bigSepL l fun t => cred (tallyAt (kcell (c, t.kd)) t.lvl t.amt)
  | [] => Entails.of_eq (Pipeline.launchCred_zero c)
  | t :: l => by
    rw [bigSepL_cons']
    refine (Entails.of_eq (Pipeline.launchCred_add (fun d => owe d l) (fun d => tallyAt (t.cell d) t.lvl t.amt) c)).trans ?_
    iintro ⟨H1, H2⟩
    isplitl [H2]
    · iapply (Pipeline.launchCred_tallyAt (semOf t.kd) t.tgt t.payer t.tgt_payer t.payer_tgt t.lvl t.amt c)
      iexact H2
    · iapply (launchCred_owe c l)
      iexact H1

end Cert.Attn

end
-- ==== Proof.Wire.lean ====
/- The steps that talk: the barriers, the credits, the four copies of a hop and the waits for them. Each is one rule, for
   any device, over what the device holds before and after. -/
module

public import proofs.«01_k».proof.Proof.Protocol

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Cert.KernelIdeal
open Facts₀ Facts

attribute [local instance] theFacts

variable {F : FTy → Type}

local notation "𝕄" => MT nD τ sig ℕ (Elt F) ℕ UU ℕ

/-- What device `d` owes that has a list to pay, whatever it has waited for. -/
def owing (d : Dev nD) (l : List Tk) : sProp 𝕄 := iprop(∃ W, owes (d : Thread nD τ) (owe d l) W)

variable (blk : (t : Bool) → Dev nD → Fin 2 → S1024x512.Idx → Elt F (elt t)) (K : Dev nD × Kd → ℕ)

/-- A cell whose rounds are over is closed. -/
theorem close_cell (d : Dev nD) (k : Kd) (n : ℕ) (hn : n = lastK k) :
    iprop(records (F := F) blk K ∗ atPos ER (kcell (d, k)) n ∅ 0) ⊢ |={Set.univ}=> (semVal (kcell (d, k)) 0 : sProp 𝕄) := by
  subst hn
  exact (sep_mono_left (records_inv blk K (d, k))).trans
    (Rounds.cell_close ER (Rd blk) (Set.mem_univ _) (fun h => h) (Rd_last blk (d, k)))

section Steps

variable [FloatOps F] [Named F]

abbrev 𝒱₀ : Variants := Variants.none

/-- The weakest precondition of a program on device `d`. -/
abbrev Wp (d : Dev nD) {α : Type} (p : BProg (F := F) α) (Q : α → sProp 𝕄) : sProp 𝕄 :=
  wp frame (wpE (defs₀ (F := F)) 𝒱₀ (d : Thread nD τ) none) Set.univ p Q

/-- A signal pays one token. -/
theorem wp_sig (tk : Tk) (d dst : Dev nD) (sm : Sem sig) (hcell : tk.cell d = ((dst : Thread nD τ), .reg sm)) (hamt : tk.amt = 1) (l : List Tk)
    {α : Type} {Q : α → sProp 𝕄} {k : PUnit → BProg (F := F) α} :
    iprop(records blk K ∗ owing d (tk :: l) ∗ dutyTok ER (tk.cell d) tk.rnd tk.duty ∗ pay blk (tk.tgt d) tk.kd tk.rnd tk.duty
        ∗ reached ER (tk.cell d) tk.rnd)
      ⊢ iprop((owing d l -∗ Wp d (k ⟨⟩) Q) -∗ Wp d (.op (.semSignal (dst : Thread nD τ) sm 1) k) Q) := by
  have hd := Rd_duties blk (tk.tgt d, tk.kd) tk.rnd
  have ha := Rd_amount blk (tk.tgt d, tk.kd) tk.rnd tk.duty
  have hp := Rd_payload blk (tk.tgt d, tk.kd) tk.rnd tk.duty
  have hi := records_inv blk K (tk.tgt d, tk.kd)
  change _ = tk.amt at ha
  change (Rd blk).duties (tk.cell d) _ = dutK tk.kd _ at hd
  change (Rd blk).amount (tk.cell d) _ _ = _ at ha
  change (Rd blk).payload (tk.cell d) _ _ = pay blk (tk.tgt d) tk.kd tk.rnd tk.duty at hp
  change _ ⊢ cellInv ER (Rd blk) _ (tk.cell d) at hi
  have ho : owe d (tk :: l) = owe d l + tallyAt (tk.cell d) tk.lvl tk.amt := rfl
  rw [hamt] at ha ho
  rw [← hp]
  have hm := tk.duty_mem
  rw [← hd] at hm
  clear hd hp
  rw [hcell] at ha ho hi hm ⊢
  unfold owing
  iintro ⟨HR, ⟨%W, HO⟩, Ht, Hp, Hr⟩ Hk
  iapply (Rounds.wp_signal 𝒱₀ ER (Rd blk) (d : Thread nD τ) none (dst := (dst : Thread nD τ)) (κ := K (tk.tgt d, tk.kd))
    (d := tk.duty) hm ha tk.lvl (owe d l) ho) $$ [HR HO Ht Hp Hr]
  · isplitl [HR]; · iapply hi; iexact HR
    isplitl [HO]; · iexact HO
    isplitl [Ht]; · iexact Ht
    isplitl [Hp]; · iexact Hp
    iexact Hr
  iintro HO
  iapply Hk
  iexists W
  iexact HO

/-- A wait takes one round. -/
theorem wp_take (d : Dev nD) (k : Kd) (sm : SemLoc sig) (hsm : semOf k = sm) (R n ι : ℕ) (l : List Tk) (hι : ι < 8) (hl : ∀ t ∈ l, ι < t.lvl)
    (hn : n = (dutK k R).card * amtK k) {w : TpuEff nD τ sig (Elt F) Λ₀ .tc PUnit}
    (hw : ∀ P : PUnit → sProp 𝕄, wpE (defs₀ (F := F)) 𝒱₀ (d : Thread nD τ) none Set.univ w P = waitSpec (d : Thread nD τ) Set.univ sm n P)
    {α : Type} {Q : α → sProp 𝕄} {k' : PUnit → BProg (F := F) α} :
    iprop(records blk K ∗ levAts (L 8) lv ∗ owing d l ∗ cred (tallyAt (kcell (d, k)) ι n) ∗ atPos ER (kcell (d, k)) R ∅ 0)
      ⊢ iprop(((owing d l ∗ atPos ER (kcell (d, k)) (R + 1) ∅ 0 ∗ reached ER (kcell (d, k)) (R + 1) ∗ bigSep (dutK k R) (fun b => pay blk d k R b))
          -∗ Wp d (k' ⟨⟩) Q) -∗ Wp d (.op w k') Q) := by
  have he := Rd_expect blk (d, k) R
  have hd := Rd_duties blk (d, k) R
  have hp := fun b => Rd_payload blk (d, k) R b
  have hi := records_inv blk K (d, k)
  have hc : kcell (d, k) = ((d : Thread nD τ), sm) := by subst hsm; rfl
  simp only at hp hd he
  have hP : bigSep ((Rd blk).duties (kcell (d, k)) R \ ∅) (fun b => (Rd blk).payload (kcell (d, k)) R b) ⊢ bigSep (dutK k R) (fun b => pay blk d k R b) := by
    rw [Finset.sdiff_empty, hd]
    exact bigSep_mono fun b _ => Entails.of_eq (hp b)
  rw [hc] at he hi hP ⊢
  unfold owing
  iintro ⟨HR, Hlev, ⟨%W, HO⟩, Hc, Hat⟩ Hk
  iapply (Rounds.wp_wait_rest_token 𝒱₀ ER (Rd blk) (d : Thread nD τ) none (κ := K (d, k)) hw (Set.mem_univ _) ι (O := owe d l) (W := W)
      (R := R) (m := 0) (T := ∅) (by rw [Nat.zero_add, he, hn])) $$ [HR Hlev HO Hc Hat]
  · isplitl [HR]; · iapply hi; iexact HR
    isplitl [Hc]; · iexact Hc
    isplitl [HO]; · iexact HO
    isplitl [Hlev]; · iapply (owe_mayWait d sm l ι hι hl); iexact Hlev
    iexact Hat
  iintro ⟨HO, Hat, Hr, Hpay⟩
  iapply Hk
  isplitl [HO]; · iexists (insert (sm, ι) W); iexact HO
  isplitl [Hat]; · iexact Hat
  isplitl [Hr]; · iexact Hr
  iapply hP
  iexact Hpay

/-- One of the four slots of a kind. -/
abbrev slot (q : PosShare TreeShare) (d : Dev nD) (t : Bool) (r s : Fin 2) (n : ℕ) : sProp 𝕄 :=
  held d (bufM t r) (slotE s) q (blk t (org r n d) r)

/-- A copy to the neighbour: the sender keeps half of the source. -/
theorem wp_snd (t : Bool) (h : Fin 3) (r : Fin 2) (d e : Dev nD) (he : e = fwd r d) (l : List Tk)
    {hsc : (slotM (bufM t r) (sl' h) : Memref sig (Dev.tc e : Thread nD τ).2.kind .vmem S1024x512 (elt t)).view.ref.isScScratch = false}
    {hsrc : (slotM (bufM t r) (sl h)).view.WordExact} {hdst : (slotM (bufM t r) (sl' h)).view.WordExact}
    {hsem : DmaTarget.Typed .vmem (.dma (semAt (rcvS t r) h)) (.remote (Dev.tc e : Thread nD τ) (slotM (bufM t r) (sl' h)) (.dma (semAt (sndS t r) h)) hsc)}
    {α : Type} {Q : α → sProp 𝕄} {k : PUnit → BProg (F := F) α} :
    iprop(records blk K ∗ owing d (.rcv t h r :: l) ∗ slot blk fullShare d t r (sl h) h.val ∗ free (fwd r d) t r (sl' h)
        ∗ dutyTok ER (kcell (d, .inr (.snd t h r))) 0 false ∗ dutyTok ER (kcell (fwd r d, .inr (.rcv t h r))) 0 false
        ∗ reached ER (kcell (d, .inr (.cr r))) (fbk h))
      ⊢ iprop(((owing d l ∗ cred (tallyAt (kcell (d, .inr (.snd t h r))) 0 (cnt t)) ∗ slot blk fullShare.right d t r (sl h) h.val)
          -∗ Wp d (k ⟨⟩) Q)
        -∗ Wp d (.op (.enqueueDma (slotM (bufM t r) (sl h)) (.remote (Dev.tc e : Thread nD τ) (slotM (bufM t r) (sl' h)) (.dma (semAt (sndS t r) h)) hsc)
            (.dma (semAt (rcvS t r) h)) hsrc hdst hsem) k) Q) := by
  subst he
  have hi₁ := records_inv blk K (d, .inr (.snd t h r))
  have hi₂ := records_inv blk K (fwd r d, .inr (.rcv t h r))
  have hr₁ := records_reached blk K (d, .inr (.snd t h r))
  have hr₂ := records_reached blk K (fwd r d, .inr (.rcv t h r))
  have hp₁ := Rd_payload blk (d, .inr (.snd t h r)) 0 false
  have hp₂ := Rd_payload blk (fwd r d, .inr (.rcv t h r)) 0 false
  have hd₁ : false ∈ (Rd blk).duties (kcell (d, .inr (.snd t h r))) 0 := by
    rw [Rd_duties]; exact Finset.mem_singleton_self _
  have hd₂ : false ∈ (Rd blk).duties (kcell (fwd r d, .inr (.rcv t h r))) 0 := by
    rw [Rd_duties]; exact Finset.mem_singleton_self _
  unfold owing slot free
  iintro ⟨#HR, ⟨%W, HO⟩, Hs, ⟨%X, Hd⟩, Ht₁, Ht₂, Hf⟩ Hk
  ihave Hs := (held_halves d (bufM t r) (slotE (sl h)) _).1 $$ Hs
  icases Hs with ⟨Hl, Hrt⟩
  ihave Hl := (Entails.of_eq (held_slot d (bufM t r) (sl h) fullShare.left _)) $$ Hl
  ihave Hd := (Entails.of_eq (held_slot (fwd r d) (bufM t r) (sl' h) fullShare _)) $$ Hd
  unfold owns
  icases Hl with ⟨%fs, %hfs, Hl⟩
  icases Hd with ⟨%fd, %hfd, Hd⟩
  iapply (Rounds.wp_send_pointsTo_with 𝒱₀ ER (Rd blk) (d : Thread nD τ) none (c' := (fwd r d : Thread nD τ))
      (F := reached ER (kcell (d, .inr (.cr r))) (fbk h)) (fs := fs) (fd := fd)
      (κ₁ := K (d, .inr (.snd t h r))) (κ₂ := K (fwd r d, .inr (.rcv t h r))) (r₁ := 0) (r₂ := 0) (d₁ := false) (d₂ := false)
      hd₁ hd₂
      (2 + 2 * h.val) 0 (cnt t) (cnt_eq t r (sl' h))
      (Rd_amount blk (d, .inr (.snd t h r)) 0 false) (Rd_amount blk (fwd r d, .inr (.rcv t h r)) 0 false)
      (owe d l) rfl (W := W)
      (by
        refine BIBase.Entails.trans ?_ (Entails.of_eq hp₁.symm)
        show _ ⊢ held d (bufM t r) (slotE (sl h)) fullShare.left (blk t (org r h.val d) r)
        rw [held_slot]
        unfold owns
        iintro H
        iexists fs
        isplitr
        · ipureintro; exact hfs
        · iexact H)
      (by
        refine BIBase.Entails.trans ?_ (Entails.of_eq hp₂.symm)
        show _ ⊢ iprop(held (fwd r d) (bufM t r) (slotE (sl' h)) fullShare (blk t (org r h.val (back r (fwd r d))) r)
          ∗ reached ER (kcell (back r (fwd r d), .inr (.cr r))) (fbk h))
        rw [back_fwd, held_slot]
        unfold owns
        iintro ⟨H, Hf⟩
        isplitl [H]
        · iexists _
          isplitr
          · ipureintro
            exact (View.read_write_univ fd _).trans hfs
          · iexact H
        · iexact Hf)) $$ [Hl Hd HO Ht₁ Ht₂ Hf]
  · isplitr; · iapply hi₁; iexact HR
    isplitr; · iapply hi₂; iexact HR
    isplitl [Hl]; · iexact Hl
    isplitl [Hd Hf]
    · isplitl [Hd]; · iexact Hd
      iexact Hf
    isplitl [HO]; · iexact HO
    isplitl [Ht₁]; · iexact Ht₁
    isplitr; · iapply hr₁; iexact HR
    isplitl [Ht₂]; · iexact Ht₂
    iapply hr₂; iexact HR
  iintro ⟨Hc, HO⟩
  iapply Hk
  isplitl [HO]; · iexists W; iexact HO
  isplitl [Hc]; · iexact Hc
  iexact Hrt

/-- The two waits for a copy: the source whole again, and what came. -/
theorem wp_rcv (t : Bool) (h : Fin 3) (r : Fin 2) (d : Dev nD) (l : List Tk) (hl : ∀ u ∈ l, 2 + 2 * h.val < u.lvl)
    {m₁ m₂ m₃ m₄ : Memref sig .tc .vmem S1024x512 (elt t)} (hm₂ : m₂ = slotM (bufM t r) (sl h)) (hm₄ : m₄ = slotM (bufM t r) (sl' h))
    {h₁ : m₁.view.WordExact} {h₂ : m₂.view.WordExact} {h₃ : m₃.view.WordExact} {h₄ : m₄.view.WordExact}
    {α : Type} {Q : α → sProp 𝕄} {k : PUnit → BProg (F := F) α} :
    iprop(records blk K ∗ levAts (L 8) lv ∗ owing d l ∗ slot blk fullShare.right d t r (sl h) h.val
        ∗ cred (tallyAt (kcell (d, .inr (.snd t h r))) 0 (cnt t)) ∗ cred (tallyAt (kcell (d, .inr (.rcv t h r))) (2 + 2 * h.val) (cnt t))
        ∗ atPos ER (kcell (d, .inr (.snd t h r))) 0 ∅ 0 ∗ atPos ER (kcell (d, .inr (.rcv t h r))) 0 ∅ 0)
      ⊢ iprop(((owing d l ∗ slot blk fullShare d t r (sl h) h.val ∗ slot blk fullShare d t r (sl' h) (h.val + 1)
            ∗ reached ER (kcell (back r d, .inr (.cr r))) (fbk h)
            ∗ semVal (kcell (d, .inr (.snd t h r))) 0 ∗ semVal (kcell (d, .inr (.rcv t h r))) 0)
          -∗ Wp d (k ⟨⟩) Q)
        -∗ Wp d (.op (.waitDma2 (semAt (sndS t r) h) m₁ m₂ h₁ h₂) fun _ => .op (.waitDma2 (semAt (rcvS t r) h) m₃ m₄ h₃ h₄) k) Q) := by
  subst hm₂
  subst hm₄
  have h3 : h.val < 3 := h.isLt
  iintro ⟨#HR, #Hlev, HO, Hrt, Hc₁, Hc₂, Ha₁, Ha₂⟩ Hk
  iapply (wp_take blk K d (.inr (.snd t h r)) _ rfl 0 (cnt t) 0 l (by omega) (fun u hu => by have := hl u hu; omega)
      (by show cnt t = 1 * cnt t; omega) (by rw [← cnt_eq t r (sl h)]; exact wpE_waitDma2_eq 𝒱₀ (d : Thread nD τ) none Set.univ)) $$ [HO Hc₁ Ha₁]
  · isplitr; · iexact HR
    isplitr; · iexact Hlev
    isplitl [HO]; · iexact HO
    isplitl [Hc₁]; · iexact Hc₁
    iexact Ha₁
  iintro ⟨HO, Ha₁, -, Hp₁⟩
  iapply (wp_take blk K d (.inr (.rcv t h r)) _ rfl 0 (cnt t) (2 + 2 * h.val) l (by omega) hl
      (by show cnt t = 1 * cnt t; omega) (by rw [← cnt_eq t r (sl' h)]; exact wpE_waitDma2_eq 𝒱₀ (d : Thread nD τ) none Set.univ)) $$ [HO Hc₂ Ha₂]
  · isplitr; · iexact HR
    isplitr; · iexact Hlev
    isplitl [HO]; · iexact HO
    isplitl [Hc₂]; · iexact Hc₂
    iexact Ha₂
  iintro ⟨HO, Ha₂, -, Hp₂⟩
  imod (close_cell blk K d (.inr (.snd t h r)) 1 rfl) $$ [Ha₁] with Hv₁
  · isplitr; · iexact HR
    iexact Ha₁
  imod (close_cell blk K d (.inr (.rcv t h r)) 1 rfl) $$ [Ha₂] with Hv₂
  · isplitr; · iexact HR
    iexact Ha₂
  ihave Hp₁ := (show bigSep (dutK (.inr (.snd t h r)) 0) (fun b => pay blk d (.inr (.snd t h r)) 0 b) ⊢ slot blk fullShare.left d t r (sl h) h.val from
    Entails.of_eq (bigSep_singleton ..)) $$ Hp₁
  ihave Hp₂ := (show bigSep (dutK (.inr (.rcv t h r)) 0) (fun b => pay blk d (.inr (.rcv t h r)) 0 b)
      ⊢ iprop(slot blk fullShare d t r (sl' h) (h.val + 1) ∗ reached ER (kcell (back r d, .inr (.cr r))) (fbk h)) from
    Entails.of_eq (bigSep_singleton ..)) $$ Hp₂
  icases Hp₂ with ⟨Hp₂, Hf⟩
  iapply Hk
  isplitl [HO]; · iexact HO
  isplitl [Hp₁ Hrt]
  · iapply (held_halves d (bufM t r) (slotE (sl h)) _).2
    isplitl [Hp₁] <;> iassumption
  isplitl [Hp₂]; · iexact Hp₂
  isplitl [Hf]; · iexact Hf
  isplitl [Hv₁]; · iexact Hv₁
  iexact Hv₂

end Steps

end Cert.Attn

end
-- ==== Proof.Ring.lean ====
/- The kernel's own steps that talk, from the rules for one signal, one copy and one wait. -/
module

public import proofs.«01_k».proof.Proof.Wire

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Cert.KernelIdeal
open Facts₀ Facts

attribute [local instance] theFacts

variable {F : FTy → Type}

local notation "𝕄" => MT nD τ sig ℕ (Elt F) ℕ UU ℕ

variable (blk : (t : Bool) → Dev nD → Fin 2 → S1024x512.Idx → Elt F (elt t)) (K : Dev nD × Kd → ℕ)

/-- Something of each of the four slots: keys and values of both directions. -/
def all4 (Φ : Bool → Fin 2 → sProp 𝕄) : sProp 𝕄 := iprop(Φ false 0 ∗ Φ true 0 ∗ Φ false 1 ∗ Φ true 1)

/-- The four slots `s`, with the blocks that have made `n` hops. -/
def slots (q : PosShare TreeShare) (d : Dev nD) (s : Fin 2) (n : ℕ) : sProp 𝕄 := all4 fun t r => slot blk q d t r s n

/-- What a device has for one copy before it sends: the two tokens, the credit for what will come, the two positions. -/
def ready (d : Dev nD) (h : Fin 3) (t : Bool) (r : Fin 2) : sProp 𝕄 :=
  iprop(dutyTok ER (kcell (d, .inr (.snd t h r))) 0 false ∗ dutyTok ER (kcell (fwd r d, .inr (.rcv t h r))) 0 false
    ∗ cred (tallyAt (kcell (d, .inr (.rcv t h r))) (2 + 2 * h.val) (cnt t))
    ∗ atPos ER (kcell (d, .inr (.snd t h r))) 0 ∅ 0 ∗ atPos ER (kcell (d, .inr (.rcv t h r))) 0 ∅ 0)
/-- And after. -/
def flying (d : Dev nD) (h : Fin 3) (t : Bool) (r : Fin 2) : sProp 𝕄 :=
  iprop(cred (tallyAt (kcell (d, .inr (.snd t h r))) 0 (cnt t)) ∗ cred (tallyAt (kcell (d, .inr (.rcv t h r))) (2 + 2 * h.val) (cnt t))
    ∗ atPos ER (kcell (d, .inr (.snd t h r))) 0 ∅ 0 ∗ atPos ER (kcell (d, .inr (.rcv t h r))) 0 ∅ 0)
/-- And when both waits are over. -/
def shut (d : Dev nD) (h : Fin 3) (t : Bool) (r : Fin 2) : sProp 𝕄 :=
  iprop(semVal (kcell (d, .inr (.snd t h r))) 0 ∗ semVal (kcell (d, .inr (.rcv t h r))) 0)

section Steps

variable [FloatOps F] [Named F]

theorem wp_sendK (h : Fin 3) (r : Fin 2) (d : Dev nD) (l : List Tk) {α : Type} {Q : α → sProp 𝕄} {k : PUnit → BProg (F := F) α} :
    iprop(records blk K ∗ owing d (.rcv false h r :: l) ∗ slot blk fullShare d false r (sl h) h.val ∗ free (fwd r d) false r (sl' h)
        ∗ ready d h false r ∗ reached ER (kcell (d, .inr (.cr r))) (fbk h))
      ⊢ iprop(((owing d l ∗ flying d h false r ∗ slot blk fullShare.right d false r (sl h) h.val) -∗ Wp d (k ⟨⟩) Q)
        -∗ Wp d (sendK d h r >>= k) Q) := by
  unfold ready flying
  iintro ⟨HR, HO, Hs, Hd, ⟨Ht₁, Ht₂, Hc, Ha₁, Ha₂⟩, Hf⟩ Hk
  iapply (show _ ⊢ iprop(_ -∗ Wp d (sendK d h r >>= k) Q) from wp_snd blk K false h r d _ (kDev_eq d h r) l) $$ [HR HO Hs Hd Ht₁ Ht₂ Hf]
  · isplitl [HR]; · iexact HR
    isplitl [HO]; · iexact HO
    isplitl [Hs]; · iexact Hs
    isplitl [Hd]; · iexact Hd
    isplitl [Ht₁]; · iexact Ht₁
    isplitl [Ht₂]; · iexact Ht₂
    iexact Hf
  iintro ⟨HO, Hc', Hs⟩
  iapply Hk
  isplitl [HO]; · iexact HO
  isplitl [Hc Hc' Ha₁ Ha₂]
  · isplitl [Hc']; · iexact Hc'
    isplitl [Hc]; · iexact Hc
    isplitl [Ha₁] <;> iassumption
  iexact Hs

theorem wp_sendV (h : Fin 3) (r : Fin 2) (d : Dev nD) (l : List Tk) {α : Type} {Q : α → sProp 𝕄} {k : PUnit → BProg (F := F) α} :
    iprop(records blk K ∗ owing d (.rcv true h r :: l) ∗ slot blk fullShare d true r (sl h) h.val ∗ free (fwd r d) true r (sl' h)
        ∗ ready d h true r ∗ reached ER (kcell (d, .inr (.cr r))) (fbk h))
      ⊢ iprop(((owing d l ∗ flying d h true r ∗ slot blk fullShare.right d true r (sl h) h.val) -∗ Wp d (k ⟨⟩) Q)
        -∗ Wp d (sendV d h r >>= k) Q) := by
  unfold ready flying
  iintro ⟨HR, HO, Hs, Hd, ⟨Ht₁, Ht₂, Hc, Ha₁, Ha₂⟩, Hf⟩ Hk
  iapply (show _ ⊢ iprop(_ -∗ Wp d (sendV d h r >>= k) Q) from wp_snd blk K true h r d _ (vDev_eq d h r) l) $$ [HR HO Hs Hd Ht₁ Ht₂ Hf]
  · isplitl [HR]; · iexact HR
    isplitl [HO]; · iexact HO
    isplitl [Hs]; · iexact Hs
    isplitl [Hd]; · iexact Hd
    isplitl [Ht₁]; · iexact Ht₁
    isplitl [Ht₂]; · iexact Ht₂
    iexact Hf
  iintro ⟨HO, Hc', Hs⟩
  iapply Hk
  isplitl [HO]; · iexact HO
  isplitl [Hc Hc' Ha₁ Ha₂]
  · isplitl [Hc']; · iexact Hc'
    isplitl [Hc]; · iexact Hc
    isplitl [Ha₁] <;> iassumption
  iexact Hs

/-- The four copies of a hop. -/
theorem wp_sends (h : Fin 3) (d : Dev nD) (l : List Tk) {α : Type} {Q : α → sProp 𝕄} {k : PUnit → BProg (F := F) α} :
    iprop(records blk K ∗ owing d (hop h ++ l) ∗ slots blk fullShare d (sl h) h.val
        ∗ free2 (fwd 0 d) 0 (sl' h) ∗ free2 (fwd 1 d) 1 (sl' h) ∗ all4 (ready d h)
        ∗ reached ER (kcell (d, .inr (.cr 0))) (fbk h) ∗ reached ER (kcell (d, .inr (.cr 1))) (fbk h))
      ⊢ iprop(((owing d l ∗ slots blk fullShare.right d (sl h) h.val ∗ all4 (flying d h)) -∗ Wp d (k ⟨⟩) Q) -∗ Wp d (sends d h >>= k) Q) := by
  unfold slots free2 all4 sends
  simp only [Prog.bind_assoc]
  iintro ⟨#HR, HO, ⟨Hs₁, Hs₂, Hs₃, Hs₄⟩, ⟨Hd₁, Hd₂⟩, ⟨Hd₃, Hd₄⟩, ⟨Hr₁, Hr₂, Hr₃, Hr₄⟩, #Hf₀, #Hf₁⟩ Hk
  iapply (wp_sendK blk K h 0 d (.rcv true h 0 :: .rcv false h 1 :: .rcv true h 1 :: l)) $$ [HO Hs₁ Hd₁ Hr₁]
  · isplitr; · iexact HR
    isplitl [HO]; · iexact HO
    isplitl [Hs₁]; · iexact Hs₁
    isplitl [Hd₁]; · iexact Hd₁
    isplitl [Hr₁]; · iexact Hr₁
    iexact Hf₀
  iintro ⟨HO, Hr₁, Hs₁⟩
  iapply (wp_sendV blk K h 0 d (.rcv false h 1 :: .rcv true h 1 :: l)) $$ [HO Hs₂ Hd₂ Hr₂]
  · isplitr; · iexact HR
    isplitl [HO]; · iexact HO
    isplitl [Hs₂]; · iexact Hs₂
    isplitl [Hd₂]; · iexact Hd₂
    isplitl [Hr₂]; · iexact Hr₂
    iexact Hf₀
  iintro ⟨HO, Hr₂, Hs₂⟩
  iapply (wp_sendK blk K h 1 d (.rcv true h 1 :: l)) $$ [HO Hs₃ Hd₃ Hr₃]
  · isplitr; · iexact HR
    isplitl [HO]; · iexact HO
    isplitl [Hs₃]; · iexact Hs₃
    isplitl [Hd₃]; · iexact Hd₃
    isplitl [Hr₃]; · iexact Hr₃
    iexact Hf₁
  iintro ⟨HO, Hr₃, Hs₃⟩
  iapply (wp_sendV blk K h 1 d l) $$ [HO Hs₄ Hd₄ Hr₄]
  · isplitr; · iexact HR
    isplitl [HO]; · iexact HO
    isplitl [Hs₄]; · iexact Hs₄
    isplitl [Hd₄]; · iexact Hd₄
    isplitl [Hr₄]; · iexact Hr₄
    iexact Hf₁
  iintro ⟨HO, Hr₄, Hs₄⟩
  iapply Hk
  isplitl [HO]; · iexact HO
  isplitl [Hs₁ Hs₂ Hs₃ Hs₄]
  · isplitl [Hs₁]; · iexact Hs₁
    isplitl [Hs₂]; · iexact Hs₂
    isplitl [Hs₃] <;> iassumption
  isplitl [Hr₁]; · iexact Hr₁
  isplitl [Hr₂]; · iexact Hr₂
  isplitl [Hr₃] <;> iassumption

theorem wp_waitK (h : Fin 3) (r : Fin 2) (d : Dev nD) (l : List Tk) (hl : ∀ u ∈ l, 2 + 2 * h.val < u.lvl)
    {α : Type} {Q : α → sProp 𝕄} {k : PUnit → BProg (F := F) α} :
    iprop(records blk K ∗ levAts (L 8) lv ∗ owing d l ∗ slot blk fullShare.right d false r (sl h) h.val ∗ flying d h false r)
      ⊢ iprop(((owing d l ∗ slot blk fullShare d false r (sl h) h.val ∗ slot blk fullShare d false r (sl' h) (h.val + 1)
            ∗ reached ER (kcell (back r d, .inr (.cr r))) (fbk h) ∗ shut d h false r) -∗ Wp d (k ⟨⟩) Q)
        -∗ Wp d (waitK h r >>= k) Q) :=
  wp_rcv blk K false h r d l hl rfl rfl

theorem wp_waitV (h : Fin 3) (r : Fin 2) (d : Dev nD) (l : List Tk) (hl : ∀ u ∈ l, 2 + 2 * h.val < u.lvl)
    {α : Type} {Q : α → sProp 𝕄} {k : PUnit → BProg (F := F) α} :
    iprop(records blk K ∗ levAts (L 8) lv ∗ owing d l ∗ slot blk fullShare.right d true r (sl h) h.val ∗ flying d h true r)
      ⊢ iprop(((owing d l ∗ slot blk fullShare d true r (sl h) h.val ∗ slot blk fullShare d true r (sl' h) (h.val + 1)
            ∗ reached ER (kcell (back r d, .inr (.cr r))) (fbk h) ∗ shut d h true r) -∗ Wp d (k ⟨⟩) Q)
        -∗ Wp d (waitV h r >>= k) Q) :=
  wp_rcv blk K true h r d l hl rfl rfl

/-- The waits for the four copies of a hop. -/
theorem wp_waits (h : Fin 3) (d : Dev nD) (l : List Tk) (hl : ∀ u ∈ l, 2 + 2 * h.val < u.lvl)
    {α : Type} {Q : α → sProp 𝕄} {k : PUnit → BProg (F := F) α} :
    iprop(records blk K ∗ levAts (L 8) lv ∗ owing d l ∗ slots blk fullShare.right d (sl h) h.val ∗ all4 (flying d h))
      ⊢ iprop(((owing d l ∗ slots blk fullShare d (sl h) h.val ∗ slots blk fullShare d (sl' h) (h.val + 1)
            ∗ reached ER (kcell (back 0 d, .inr (.cr 0))) (fbk h) ∗ reached ER (kcell (back 1 d, .inr (.cr 1))) (fbk h) ∗ all4 (shut d h))
          -∗ Wp d (k ⟨⟩) Q) -∗ Wp d (waits h >>= k) Q) := by
  unfold slots all4 waits
  simp only [Prog.bind_assoc]
  iintro ⟨#HR, #Hlev, HO, ⟨Hs₁, Hs₂, Hs₃, Hs₄⟩, Hr₁, Hr₂, Hr₃, Hr₄⟩ Hk
  iapply (wp_waitK blk K h 0 d l hl) $$ [HO Hs₁ Hr₁]
  · isplitr; · iexact HR
    isplitr; · iexact Hlev
    isplitl [HO]; · iexact HO
    isplitl [Hs₁] <;> iassumption
  iintro ⟨HO, Hs₁, Hd₁, Hf₀, Hr₁⟩
  iapply (wp_waitV blk K h 0 d l hl) $$ [HO Hs₂ Hr₂]
  · isplitr; · iexact HR
    isplitr; · iexact Hlev
    isplitl [HO]; · iexact HO
    isplitl [Hs₂] <;> iassumption
  iintro ⟨HO, Hs₂, Hd₂, -, Hr₂⟩
  iapply (wp_waitK blk K h 1 d l hl) $$ [HO Hs₃ Hr₃]
  · isplitr; · iexact HR
    isplitr; · iexact Hlev
    isplitl [HO]; · iexact HO
    isplitl [Hs₃] <;> iassumption
  iintro ⟨HO, Hs₃, Hd₃, Hf₁, Hr₃⟩
  iapply (wp_waitV blk K h 1 d l hl) $$ [HO Hs₄ Hr₄]
  · isplitr; · iexact HR
    isplitr; · iexact Hlev
    isplitl [HO]; · iexact HO
    isplitl [Hs₄] <;> iassumption
  iintro ⟨HO, Hs₄, Hd₄, -, Hr₄⟩
  iapply Hk
  isplitl [HO]; · iexact HO
  isplitl [Hs₁ Hs₂ Hs₃ Hs₄]
  · isplitl [Hs₁]; · iexact Hs₁
    isplitl [Hs₂]; · iexact Hs₂
    isplitl [Hs₃] <;> iassumption
  isplitl [Hd₁ Hd₂ Hd₃ Hd₄]
  · isplitl [Hd₁]; · iexact Hd₁
    isplitl [Hd₂]; · iexact Hd₂
    isplitl [Hd₃] <;> iassumption
  isplitl [Hf₀]; · iexact Hf₀
  isplitl [Hf₁]; · iexact Hf₁
  isplitl [Hr₁]; · iexact Hr₁
  isplitl [Hr₂]; · iexact Hr₂
  isplitl [Hr₃] <;> iassumption

/-- What a device has for a round of credits of one direction. -/
def credRes (d : Dev nD) (i r : Fin 2) : sProp 𝕄 :=
  iprop(dutyTok ER (kcell (back r d, .inr (.cr r))) i.val false ∗ cred (tallyAt (kcell (d, .inr (.cr r))) (3 + 2 * i.val) 1)
    ∗ atPos ER (kcell (d, .inr (.cr r))) i.val ∅ 0 ∗ reached ER (kcell (back r d, .inr (.cr r))) i.val)
def credEnd (d : Dev nD) (i r : Fin 2) : sProp 𝕄 :=
  iprop(free2 (fwd r d) r (crSlot i.val) ∗ atPos ER (kcell (d, .inr (.cr r))) (i.val + 1) ∅ 0 ∗ reached ER (kcell (d, .inr (.cr r))) (i.val + 1))

theorem cr_round (r i : Fin 2) : dutK (.inr (.cr r)) i.val = {false} := by revert r i; decide

/-- A signal to the neighbour behind that a pair of slots is free. -/
theorem wp_credit (r i : Fin 2) (d dst : Dev nD) (hdst : dst = back r d) (l : List Tk) {α : Type} {Q : α → sProp 𝕄} {k : PUnit → BProg (F := F) α} :
    iprop(records blk K ∗ owing d (.cr r i :: l) ∗ free2 d r (crSlot i.val)
        ∗ dutyTok ER (kcell (back r d, .inr (.cr r))) i.val false ∗ reached ER (kcell (back r d, .inr (.cr r))) i.val)
      ⊢ iprop((owing d l -∗ Wp d (k ⟨⟩) Q) -∗ Wp d (semSignalWord dst (crS r) 1#32 >>= k) Q) := by
  subst hdst
  iintro ⟨HR, HO, Hs, Ht, Hr⟩ Hk
  iapply (show _ ⊢ iprop(_ -∗ Wp d (semSignalWord (back r d) (crS r) 1#32 >>= k) Q) from
    wp_sig blk K (.cr r i) d (back r d) (crS r) rfl rfl l) $$ [HR HO Hs Ht Hr]
  · isplitl [HR]; · iexact HR
    isplitl [HO]; · iexact HO
    isplitl [Ht]; · iexact Ht
    isplitl [Hs]
    · iapply (Entails.of_eq (show free2 d r (crSlot i.val) = pay blk (back r d) (.inr (.cr r)) i.val false by
        show _ = free2 (fwd r (back r d)) r (crSlot i.val); rw [fwd_back]))
      iexact Hs
    iexact Hr
  iexact Hk

/-- The wait for the credit of the neighbour ahead. -/
theorem wp_credited (r i : Fin 2) (d : Dev nD) (l : List Tk) (hl : ∀ u ∈ l, 3 + 2 * i.val < u.lvl) {α : Type} {Q : α → sProp 𝕄}
    {k : PUnit → BProg (F := F) α} :
    iprop(records blk K ∗ levAts (L 8) lv ∗ owing d l ∗ cred (tallyAt (kcell (d, .inr (.cr r))) (3 + 2 * i.val) 1)
        ∗ atPos ER (kcell (d, .inr (.cr r))) i.val ∅ 0)
      ⊢ iprop(((owing d l ∗ credEnd d i r) -∗ Wp d (k ⟨⟩) Q) -∗ Wp d (semWaitWord (crS r) 1#32 >>= k) Q) := by
  iintro ⟨HR, Hlev, HO, Hc, Ha⟩ Hk
  iapply (show _ ⊢ iprop(_ -∗ Wp d (semWaitWord (crS r) 1#32 >>= k) Q) from
    wp_take blk K d (.inr (.cr r)) (.reg (crS r)) rfl i.val 1 (3 + 2 * i.val) l (by have := i.isLt; omega) hl
      (by rw [cr_round]; rfl) (wpE_semWait_eq 𝒱₀ (d : Thread nD τ) none Set.univ)) $$ [HR Hlev HO Hc Ha]
  · isplitl [HR]; · iexact HR
    isplitl [Hlev]; · iexact Hlev
    isplitl [HO]; · iexact HO
    isplitl [Hc] <;> iassumption
  iintro ⟨HO, Ha, Hr, Hp⟩
  iapply Hk
  isplitl [HO]; · iexact HO
  unfold credEnd
  isplitl [Hp]
  · iapply (show bigSep (dutK (.inr (.cr r)) i.val) (fun b => pay blk d (.inr (.cr r)) i.val b) ⊢ free2 (fwd r d) r (crSlot i.val) from by
      rw [cr_round]; exact Entails.of_eq (bigSep_singleton ..))
    iexact Hp
  isplitl [Ha] <;> iassumption

/-- A round of credits. -/
theorem wp_credits (i : Fin 2) (d : Dev nD) (l : List Tk) (hl : ∀ u ∈ l, 3 + 2 * i.val < u.lvl) {α : Type} {Q : α → sProp 𝕄}
    {k : PUnit → BProg (F := F) α} :
    iprop(records blk K ∗ levAts (L 8) lv ∗ owing d (.cr 0 i :: .cr 1 i :: l) ∗ free2 d 0 (crSlot i.val) ∗ free2 d 1 (crSlot i.val)
        ∗ credRes d i 0 ∗ credRes d i 1)
      ⊢ iprop(((owing d l ∗ credEnd d i 0 ∗ credEnd d i 1) -∗ Wp d (k ⟨⟩) Q) -∗ Wp d (credits d i >>= k) Q) := by
  unfold credRes credits
  simp only [Prog.bind_assoc]
  iintro ⟨#HR, #Hlev, HO, Hs₀, Hs₁, ⟨Ht₀, Hc₀, Ha₀, Hr₀⟩, ⟨Ht₁, Hc₁, Ha₁, Hr₁⟩⟩ Hk
  iapply (wp_credit blk K 0 i d _ (cr1_eq d i) (.cr 1 i :: l)) $$ [HO Hs₀ Ht₀ Hr₀]
  · isplitr; · iexact HR
    isplitl [HO]; · iexact HO
    isplitl [Hs₀]; · iexact Hs₀
    isplitl [Ht₀] <;> iassumption
  iintro HO
  iapply (wp_credit blk K 1 i d _ (cr2_eq d i) l) $$ [HO Hs₁ Ht₁ Hr₁]
  · isplitr; · iexact HR
    isplitl [HO]; · iexact HO
    isplitl [Hs₁]; · iexact Hs₁
    isplitl [Ht₁] <;> iassumption
  iintro HO
  iapply (wp_credited blk K 0 i d l hl) $$ [HO Hc₀ Ha₀]
  · isplitr; · iexact HR
    isplitr; · iexact Hlev
    isplitl [HO]; · iexact HO
    isplitl [Hc₀] <;> iassumption
  iintro ⟨HO, He₀⟩
  iapply (wp_credited blk K 1 i d l hl) $$ [HO Hc₁ Ha₁]
  · isplitr; · iexact HR
    isplitr; · iexact Hlev
    isplitl [HO]; · iexact HO
    isplitl [Hc₁] <;> iassumption
  iintro ⟨HO, He₁⟩
  iapply Hk
  isplitl [HO]; · iexact HO
  isplitl [He₀] <;> iassumption

/-- What a device has for a barrier. -/
def barRes (d : Dev nD) (k : Kd) (ι : ℕ) : sProp 𝕄 :=
  iprop(dutyTok ER (kcell (back 0 d, k)) 0 false ∗ dutyTok ER (kcell (back 1 d, k)) 0 true
    ∗ cred (tallyAt (kcell (d, k)) ι 2) ∗ atPos ER (kcell (d, k)) 0 ∅ 0)

/-- The first barrier: the neighbours' slots 1 are free. -/
theorem wp_meet (d : Dev nD) (l : List Tk) (hl : ∀ u ∈ l, 1 < u.lvl) {α : Type} {Q : α → sProp 𝕄} {k : PUnit → BProg (F := F) α} :
    iprop(records blk K ∗ levAts (L 8) lv ∗ owing d (.bar false :: .bar true :: l) ∗ free2 d 0 1 ∗ free2 d 1 1 ∗ barRes d (.inl ()) 1)
      ⊢ iprop(((owing d l ∗ free2 (fwd 0 d) 0 1 ∗ free2 (fwd 1 d) 1 1 ∗ semVal (kcell (d, .inl ())) 0) -∗ Wp d (k ⟨⟩) Q)
        -∗ Wp d (meet d >>= k) Q) := by
  unfold barRes meet
  simp only [Prog.bind_assoc, bar1_eq, bar2_eq]
  have hr := fun c => records_reached blk K (c, .inl ())
  iintro ⟨#HR, #Hlev, HO, Hs₀, Hs₁, Ht₀, Ht₁, Hc, Ha⟩ Hk
  iapply (show _ ⊢ iprop(_ -∗ Wp d (semSignalWord (back 0 d) barS 1#32 >>= fun _ => semSignalWord (back 1 d) barS 1#32 >>= fun _ => semWaitWord barS 2#32 >>= k) Q) from
    wp_sig blk K (.bar false) d (back 0 d) barS rfl rfl (.bar true :: l)) $$ [HO Hs₀ Ht₀]
  · isplitr; · iexact HR
    isplitl [HO]; · iexact HO
    isplitl [Ht₀]; · iexact Ht₀
    isplitl [Hs₀]
    · iapply (Entails.of_eq (show free2 d 0 1 = pay blk (back 0 d) (.inl ()) 0 false by
        show _ = free2 (fwd 0 (back 0 d)) 0 1; rw [fwd_back]))
      iexact Hs₀
    iapply hr; iexact HR
  iintro HO
  iapply (show _ ⊢ iprop(_ -∗ Wp d (semSignalWord (back 1 d) barS 1#32 >>= fun _ => semWaitWord barS 2#32 >>= k) Q) from
    wp_sig blk K (.bar true) d (back 1 d) barS rfl rfl l) $$ [HO Hs₁ Ht₁]
  · isplitr; · iexact HR
    isplitl [HO]; · iexact HO
    isplitl [Ht₁]; · iexact Ht₁
    isplitl [Hs₁]
    · iapply (Entails.of_eq (show free2 d 1 1 = pay blk (back 1 d) (.inl ()) 0 true by
        show _ = free2 (fwd 1 (back 1 d)) 1 1; rw [fwd_back]))
      iexact Hs₁
    iapply hr; iexact HR
  iintro HO
  iapply (show _ ⊢ iprop(_ -∗ Wp d (semWaitWord barS 2#32 >>= k) Q) from
    wp_take blk K d (.inl ()) (.reg barS) rfl 0 2 1 l (by omega) hl rfl (wpE_semWait_eq 𝒱₀ (d : Thread nD τ) none Set.univ)) $$ [HO Hc Ha]
  · isplitr; · iexact HR
    isplitr; · iexact Hlev
    isplitl [HO]; · iexact HO
    isplitl [Hc] <;> iassumption
  iintro ⟨HO, Ha, -, Hp⟩
  imod (close_cell blk K d (.inl ()) 1 rfl) $$ [Ha] with Hv
  · isplitr; · iexact HR
    iexact Ha
  ihave Hp := (show bigSep (dutK (.inl ()) 0) (fun b => pay blk d (.inl ()) 0 b) ⊢ iprop(free2 (fwd 0 d) 0 1 ∗ free2 (fwd 1 d) 1 1) from
    Entails.of_eq (bigSep_eq_bigSepL_of_eq [false, true] (by decide) (by decide) _)) $$ Hp
  icases Hp with ⟨Hp₀, Hp₁⟩
  iapply Hk
  isplitl [HO]; · iexact HO
  isplitl [Hp₀]; · iexact Hp₀
  isplitl [Hp₁] <;> iassumption

/-- The last barrier. -/
theorem wp_part (d : Dev nD) {α : Type} {Q : α → sProp 𝕄} {k : PUnit → BProg (F := F) α} :
    iprop(records blk K ∗ levAts (L 8) lv ∗ owing d [.fin false, .fin true] ∗ barRes d (.inr .fin) 7)
      ⊢ iprop(((owing d [] ∗ semVal (kcell (d, .inr .fin)) 0) -∗ Wp d (k ⟨⟩) Q) -∗ Wp d (part d >>= k) Q) := by
  unfold barRes part
  simp only [Prog.bind_assoc, end1_eq, end2_eq]
  have hr := fun c => records_reached blk K (c, .inr .fin)
  iintro ⟨#HR, #Hlev, HO, Ht₀, Ht₁, Hc, Ha⟩ Hk
  iapply (show _ ⊢ iprop(_ -∗ Wp d (semSignalWord (back 0 d) endS 1#32 >>= fun _ => semSignalWord (back 1 d) endS 1#32 >>= fun _ => semWaitWord endS 2#32 >>= k) Q) from
    wp_sig blk K (.fin false) d (back 0 d) endS rfl rfl [.fin true]) $$ [HO Ht₀]
  · isplitr; · iexact HR
    isplitl [HO]; · iexact HO
    isplitl [Ht₀]; · iexact Ht₀
    isplitr
    · iapply (show (emp : sProp 𝕄) ⊢ pay blk (back 0 d) (.inr .fin) 0 false from .rfl)
      iempintro
    iapply hr; iexact HR
  iintro HO
  iapply (show _ ⊢ iprop(_ -∗ Wp d (semSignalWord (back 1 d) endS 1#32 >>= fun _ => semWaitWord endS 2#32 >>= k) Q) from
    wp_sig blk K (.fin true) d (back 1 d) endS rfl rfl []) $$ [HO Ht₁]
  · isplitr; · iexact HR
    isplitl [HO]; · iexact HO
    isplitl [Ht₁]; · iexact Ht₁
    isplitr
    · iapply (show (emp : sProp 𝕄) ⊢ pay blk (back 1 d) (.inr .fin) 0 true from .rfl)
      iempintro
    iapply hr; iexact HR
  iintro HO
  iapply (show _ ⊢ iprop(_ -∗ Wp d (semWaitWord endS 2#32 >>= k) Q) from
    wp_take blk K d (.inr .fin) (.reg endS) rfl 0 2 7 [] (by omega) (fun u hu => absurd hu List.not_mem_nil) rfl (wpE_semWait_eq 𝒱₀ (d : Thread nD τ) none Set.univ)) $$ [HO Hc Ha]
  · isplitr; · iexact HR
    isplitr; · iexact Hlev
    isplitl [HO]; · iexact HO
    isplitl [Hc] <;> iassumption
  iintro ⟨HO, Ha, -, -⟩
  imod (close_cell blk K d (.inr .fin) 1 rfl) $$ [Ha] with Hv
  · isplitr; · iexact HR
    iexact Ha
  iapply Hk
  isplitl [HO] <;> iassumption

end Steps

end Cert.Attn

end
-- ==== Proof.Pass.lean ====
/- The kernel's own steps that compute: each store of a head or a block changes one tile, and a list of them all of its
   tiles. -/
module

public import proofs.«01_k».proof.Proof.Tiling
public import proofs.«01_k».proof.Proof.Ring
public import Idealize.ShloMosaic.Lib.Pointwise

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal
open Facts₀ Facts

attribute [local instance] theFacts

variable {F : FTy → Type}

/-! ## Changing a family at a list of keys -/

section SetAll

variable {P S : Type} [DecidableEq P] (g : P → S → S)

def setAll : List P → (P → S) → P → S
  | [], W => W
  | p :: l, W => setAll l (Function.update W p (g p (W p)))

theorem setAll_append (l l' : List P) (W : P → S) : setAll g (l ++ l') W = setAll g l' (setAll g l W) := by
  induction l generalizing W with
  | nil => rfl
  | cons p l ih => exact ih _

theorem setAll_of_not_mem {p : P} : ∀ (l : List P) (W : P → S), p ∉ l → setAll g l W p = W p
  | [], _, _ => rfl
  | a :: l, W, h => by
    show setAll g l _ p = _
    rw [setAll_of_not_mem l _ fun hp => h (List.mem_cons_of_mem _ hp), Function.update_of_ne]
    rintro rfl
    exact h List.mem_cons_self

theorem setAll_of_mem {p : P} : ∀ (l : List P) (W : P → S), l.Nodup → p ∈ l → setAll g l W p = g p (W p)
  | a :: l, W, hn, hp => by
    show setAll g l _ p = _
    rcases List.mem_cons.mp hp with h | hp
    · subst h; rw [setAll_of_not_mem g l _ (List.nodup_cons.mp hn).1, Function.update_self]
    · rw [setAll_of_mem l _ (List.nodup_cons.mp hn).2 hp, Function.update_of_ne]
      intro h
      exact (List.nodup_cons.mp hn).1 (h ▸ hp)

/-- At all keys at once. -/
theorem setAll_all {l : List P} (hn : l.Nodup) (hl : ∀ p, p ∈ l) (W : P → S) : setAll g l W = fun p => g p (W p) :=
  funext fun p => setAll_of_mem g l W hn (hl p)

theorem update_comp {T : Type} (f : S → T) (W : P → S) (p : P) (w : S) :
    (fun q => f (Function.update W p w q)) = Function.update (fun q => f (W q)) p (f w) := by
  funext q
  by_cases h : q = p
  · subst h; rw [Function.update_self, Function.update_self]
  · rw [Function.update_of_ne h, Function.update_of_ne h]

end SetAll

/-! ## Whole buffers as one tile -/

def tMat : Tiles S1024x1024 S1024x1024 (Function.Embedding.refl _) Unit S1024x1024.size where
  off _ := ![0, 0]
  inb _ := inb_S1024x1024_S1024x1024_0_0
  at_ _ x := x
  key _ := ()
  loc i := i
  at_key _ := rfl
  key_at _ _ := rfl
  emb_at p x := idx2_ext (by
    show (x 0).val = 0 + 1 * (x 0).val
    omega) (by
    show (x 1).val = 0 + 1 * (x 1).val
    omega)

def tInp : Tiles S2x512x1024 S2x512x1024 (Function.Embedding.refl _) Unit S2x512x1024.size where
  off _ := ![0, 0, 0]
  inb _ := inb_S2x512x1024_S2x512x1024_0_0_0
  at_ _ x := x
  key _ := ()
  loc i := i
  at_key _ := rfl
  key_at _ _ := rfl
  emb_at p x := Shape.idx3_ext (by
    show (x 0).val = 0 + 1 * (x 0).val
    omega) (by
    show (x 1).val = 0 + 1 * (x 1).val
    omega) (by
    show (x 2).val = 0 + 1 * (x 2).val
    omega)

local notation "𝕄" => MT nD τ sig ℕ (Elt F) ℕ UU ℕ

/-- All of a memref. -/
abbrev whole {s : Shape} {φ : EltTy} (c : Dev nD) (m : Memref sig .tc .vmem s φ) (q : PosShare TreeShare) (X : s.Idx → Elt F φ) : sProp 𝕄 :=
  held c m (Function.Embedding.refl _) q X

/-- Holding all of a memref is owning it. -/
theorem whole_eq {s : Shape} {φ : EltTy} (c : Dev nD) (m : Memref sig .tc .vmem s φ) (q : PosShare TreeShare) (X : s.Idx → Elt F φ) :
    (whole c m q X : sProp 𝕄) = owns (c : Thread nD τ) m q X := by
  unfold whole held owns
  have hS : m.view.set = heldSet m (Function.Embedding.refl _) := rfl
  have hr : ∀ f : Buf (Elt F) (m.view.loc (c : Thread nD τ)), (∀ i, m.view.read (Elt F) f (Function.Embedding.refl _ i) = X i) = (m.view.read (Elt F) f = X) :=
    fun f => propext ⟨fun h => funext h, fun h i => congrFun h i⟩
  rw [hS]
  exact congrArg _ (funext fun f => by rw [hr f])

section Steps

variable [FloatOps F] [Named F] (d : Dev nD)

/-- A list of steps, each changing a family at its own key. -/
theorem wp_steps {A P S : Type} [DecidableEq P] (f : A → BProg (F := F) PUnit) (key : A → P) (g : P → S → S) (I : (P → S) → sProp 𝕄) {α : Type} {Q : α → sProp 𝕄}
    (h : ∀ (a : A) (W : P → S) (k : PUnit → BProg (F := F) α),
      I W ⊢ iprop((I (Function.update W (key a) (g (key a) (W (key a)))) -∗ Wp d (k ⟨⟩) Q) -∗ Wp d (f a >>= k) Q))
    (l : List A) (W : P → S) (k : PUnit → BProg (F := F) α) :
    I W ⊢ iprop((I (setAll g (l.map key) W) -∗ Wp d (k ⟨⟩) Q) -∗ Wp d (steps f l >>= k) Q) := by
  induction l generalizing W with
  | nil =>
    iintro H Hk
    iapply (show iprop(I W ∗ (I (setAll g ([].map key) W) -∗ Wp d (k ⟨⟩) Q)) ⊢ Wp d (steps f [] >>= k) Q from by
      show iprop(I W ∗ (I W -∗ Wp d (k ⟨⟩) Q)) ⊢ Wp d (k ⟨⟩) Q
      iintro ⟨H, Hk⟩
      iapply Hk
      iexact H)
    isplitl [H] <;> iassumption
  | cons a l ih =>
    iintro H Hk
    iapply (show _ ⊢ Wp d (steps f (a :: l) >>= k) Q from Entails.of_eq (by
      show Wp d (f a >>= fun _ => steps f l >>= k) Q = Wp d ((f a >>= fun _ => steps f l) >>= k) Q
      rw [Prog.bind_assoc]))
    iapply (h a W fun _ => steps f l >>= k) $$ H
    iintro H
    iapply (ih _) $$ H
    iexact Hk

variable {α : Type} {q : PosShare TreeShare}

theorem wp_loadW (m : Memref sig .tc .vmem S1024x1024 .f32) {X : S1024x1024.Idx → Elt F .f32} {Q : α → sProp 𝕄} {k : _ → BProg (F := F) α} :
    whole d m q X ⊢ iprop((whole d m q X -∗ Wp d (k X) Q) -∗ Wp d (loadW m >>= k) Q) :=
  wp_get 𝒱₀ tMat d m ()
theorem wp_loadX (m : Memref sig .tc .vmem S2x512x1024 .f32) {X : S2x512x1024.Idx → Elt F .f32} {Q : α → sProp 𝕄} {k : _ → BProg (F := F) α} :
    whole d m q X ⊢ iprop((whole d m q X -∗ Wp d (k X) Q) -∗ Wp d (loadX m >>= k) Q) :=
  wp_get 𝒱₀ tInp d m ()
theorem wp_loadQ (b : Fin 2) (g : Fin 8) {X : S1024x1024.Idx → Elt F .bf16} {Q : α → sProp 𝕄} {k : _ → BProg (F := F) α} :
    whole d qM q X ⊢ iprop((whole d qM q X -∗ Wp d (k (tBlk.cut X (b, g))) Q) -∗ Wp d (loadQ b g >>= k) Q) :=
  wp_get 𝒱₀ tBlk d qM (b, g)
theorem wp_loadA (b : Fin 2) (g : Fin 8) {X : S1024x1024.Idx → Elt F .f32} {Q : α → sProp 𝕄} {k : _ → BProg (F := F) α} :
    whole d accM q X ⊢ iprop((whole d accM q X -∗ Wp d (k (tBlk.cut X (b, g))) Q) -∗ Wp d (loadA b g >>= k) Q) :=
  wp_get 𝒱₀ tBlk d accM (b, g)
theorem wp_loadL (b : Fin 2) (g : Fin 8) {X : S1024x8.Idx → Elt F .f32} {Q : α → sProp 𝕄} {k : _ → BProg (F := F) α} :
    whole d lM q X ⊢ iprop((whole d lM q X -∗ Wp d (k (tSum.cut X (b, g))) Q) -∗ Wp d (loadL b g >>= k) Q) :=
  wp_get 𝒱₀ tSum d lM (b, g)
theorem wp_loadK (r s b : Fin 2) (h : Fin 4) {X : S1024x512.Idx → Elt F .fp8e4m3} {Q : α → sProp 𝕄} {k : _ → BProg (F := F) α} :
    held d (kM r) (slotE s) q X ⊢ iprop((held d (kM r) (slotE s) q X -∗ Wp d (k (kBlk X (b, h))) Q) -∗ Wp d (loadK r s b h >>= k) Q) :=
  wp_get 𝒱₀ (tKB s) d (kM r) (b, h)
theorem wp_loadV (r s b : Fin 2) (h : Fin 4) {X : S1024x512.Idx → Elt F .bf16} {Q : α → sProp 𝕄} {k : _ → BProg (F := F) α} :
    held d (vM r) (slotE s) q X ⊢ iprop((held d (vM r) (slotE s) q X -∗ Wp d (k (kBlk X (b, h))) Q) -∗ Wp d (loadV r s b h >>= k) Q) :=
  wp_get 𝒱₀ (tKB s) d (vM r) (b, h)

theorem wp_storeA (b : Fin 2) (g : Fin 8) (w : FVec F S512x128 .f32) {W : Fin 2 × Fin 8 → S512x128.Idx → Elt F .f32} {Q : α → sProp 𝕄} {k : _ → BProg (F := F) α} :
    whole d accM fullShare (tBlk.tile W)
      ⊢ iprop((whole d accM fullShare (tBlk.tile (Function.update W (b, g) w)) -∗ Wp d (k ⟨⟩) Q)
        -∗ Wp d (storeA b g w >>= k) Q) := by
  unfold storeA
  simp only [Prog.bind_assoc, shapeCast_id]
  iintro H Hk
  iapply (wp_loadA d b g) $$ H
  iintro H
  iapply (wp_put 𝒱₀ tBlk d accM (b, g) _) $$ H
  iexact Hk
theorem wp_storeQ (b : Fin 2) (g : Fin 8) (w : FVec F S512x128 .bf16) {W : Fin 2 × Fin 8 → S512x128.Idx → Elt F .bf16} {Q : α → sProp 𝕄} {k : _ → BProg (F := F) α} :
    whole d qM fullShare (tBlk.tile W)
      ⊢ iprop((whole d qM fullShare (tBlk.tile (Function.update W (b, g) w)) -∗ Wp d (k ⟨⟩) Q)
        -∗ Wp d (storeQ b g w >>= k) Q) := by
  unfold storeQ
  simp only [Prog.bind_assoc, shapeCast_id]
  iintro H Hk
  iapply (wp_loadQ d b g) $$ H
  iintro H
  iapply (wp_put 𝒱₀ tBlk d qM (b, g) _) $$ H
  iexact Hk
theorem wp_storeL (b : Fin 2) (g : Fin 8) (w : FVec F S512x1 .f32) {W : Fin 2 × Fin 8 → S512x1.Idx → Elt F .f32} {Q : α → sProp 𝕄} {k : _ → BProg (F := F) α} :
    whole d lM fullShare (tSum.tile W)
      ⊢ iprop((whole d lM fullShare (tSum.tile (Function.update W (b, g) w)) -∗ Wp d (k ⟨⟩) Q)
        -∗ Wp d (storeL b g w >>= k) Q) := by
  unfold storeL
  simp only [Prog.bind_assoc, shapeCast_id]
  iintro H Hk
  iapply (wp_loadL d b g) $$ H
  iintro H
  iapply (wp_put 𝒱₀ tSum d lM (b, g) _) $$ H
  iexact Hk
theorem wp_putK (r : Fin 2) (h : Fin 4) (w : FVec F S1024x128 .fp8e4m3) {W : Fin 4 → S1x1024x128.Idx → Elt F .fp8e4m3} {Q : α → sProp 𝕄} {k : _ → BProg (F := F) α} :
    held d (kM r) (slotE 0) fullShare (tKey.tile W)
      ⊢ iprop((held d (kM r) (slotE 0) fullShare (tKey.tile (Function.update W h (shapeCast S1x1024x128 w shapeCasts_S1024x128_S1x1024x128))) -∗ Wp d (k ⟨⟩) Q)
        -∗ Wp d (putK r h w >>= k) Q) := by
  unfold putK
  simp only [Prog.bind_assoc]
  iintro H Hk
  iapply (wp_get 𝒱₀ tKey d (kM r) h) $$ H
  iintro H
  iapply (wp_put 𝒱₀ tKey d (kM r) h _) $$ H
  iexact Hk
theorem wp_putV (r : Fin 2) (w : FVec F S1024x512 .bf16) {X : S1024x512.Idx → Elt F .bf16} {Q : α → sProp 𝕄} {k : _ → BProg (F := F) α} :
    held d (vM r) (slotE 0) fullShare X
      ⊢ iprop((held d (vM r) (slotE 0) fullShare (tSlot.tile fun _ => shapeCast S1x1024x512 w shapeCasts_S1024x512_S1x1024x512) -∗ Wp d (k ⟨⟩) Q)
        -∗ Wp d (putV r w >>= k) Q) := by
  unfold putV
  simp only [Prog.bind_assoc]
  have e : (tSlot.tile fun _ => shapeCast S1x1024x512 w shapeCasts_S1024x512_S1x1024x512)
      = tSlot.tile (Function.update (tSlot.cut X) () (shapeCast S1x1024x512 w shapeCasts_S1024x512_S1x1024x512)) := by
    congr 1
  rw [e]
  have e' := tSlot.tile_cut X
  iintro H Hk
  iapply (wp_get 𝒱₀ tSlot d (vM r) ()) $$ H
  iintro H
  ihave H := (Entails.of_eq (congrArg (fun Y => held d (vM r) (slotE 0) fullShare Y) e'.symm)) $$ H
  iapply (wp_put 𝒱₀ tSlot d (vM r) () _) $$ H
  iexact Hk
theorem wp_putQ (h : Fin 8) (w : FVec F S1024x128 .bf16) {W : Fin 8 → S1024x128.Idx → Elt F .bf16} {Q : α → sProp 𝕄} {k : _ → BProg (F := F) α} :
    whole d qM fullShare (tHead.tile W)
      ⊢ iprop((whole d qM fullShare (tHead.tile (Function.update W h w)) -∗ Wp d (k ⟨⟩) Q)
        -∗ Wp d (putQ h w >>= k) Q) := by
  unfold putQ
  simp only [Prog.bind_assoc, shapeCast_id]
  iintro H Hk
  iapply (wp_get 𝒱₀ tHead d qM h) $$ H
  iintro H
  iapply (wp_put 𝒱₀ tHead d qM h _) $$ H
  iexact Hk

/-! ## The keys, values and queries -/

/-- The contents of a slot after its device's keys of one direction, of its values, and of the queries' buffer. -/
def keysV (d : Dev nD) (x : Vec F S2x512x1024 .f32) (w : Vec F S1024x1024 .f32) (r : Fin 2) : S1024x512.Idx → Elt F .fp8e4m3 :=
  tKey.tile fun h => shapeCast S1x1024x128 (kHead d (projV x w) (hd r h)) shapeCasts_S1024x128_S1x1024x128
def valsV (x : Vec F S2x512x1024 .f32) (w : Vec F S1024x1024 .f32) (r : Fin 2) : S1024x512.Idx → Elt F .bf16 :=
  tSlot.tile fun _ => shapeCast S1x1024x512 (vHalf (projV x w) r) shapeCasts_S1024x512_S1x1024x512
def qrysV (d : Dev nD) (x : Vec F S2x512x1024 .f32) (w : Vec F S1024x1024 .f32) : S1024x1024.Idx → Elt F .bf16 :=
  tHead.tile fun h => qHead d (projV x w) h

theorem keys4_nodup : (([0, 1, 2, 3] : List (Fin 4)).map id).Nodup := by decide
theorem keys4_all (p : Fin 4) : p ∈ ([0, 1, 2, 3] : List (Fin 4)).map id := by revert p; decide
theorem keys8_nodup : (([0, 1, 2, 3, 4, 5, 6, 7] : List (Fin 8)).map id).Nodup := by decide
theorem keys8_all (p : Fin 8) : p ∈ ([0, 1, 2, 3, 4, 5, 6, 7] : List (Fin 8)).map id := by revert p; decide
theorem keys16_nodup : (blks8.map id).Nodup := by decide
theorem keys16_all (p : Fin 2 × Fin 8) : p ∈ blks8.map id := by revert p; decide

theorem free2_open (r s : Fin 2) : (free2 d r s : sProp 𝕄)
    ⊢ iprop((∃ X, held d (kM r) (slotE s) fullShare X) ∗ (∃ X, held d (vM r) (slotE s) fullShare X)) := .rfl

theorem wp_keys (r : Fin 2) (x : Vec F S2x512x1024 .f32) (w : Vec F S1024x1024 .f32) {X : S1024x512.Idx → Elt F .fp8e4m3} {Q : α → sProp 𝕄} {k : _ → BProg (F := F) α} :
    held d (kM r) (slotE 0) fullShare X
      ⊢ iprop((held d (kM r) (slotE 0) fullShare (keysV d x w r) -∗ Wp d (k ⟨⟩) Q)
        -∗ Wp d (steps (fun h => putK r h (kHead d (projV x w) (hd r h))) [0, 1, 2, 3] >>= k) Q) := by
  obtain ⟨W₀, rfl⟩ : ∃ W, X = tKey.tile W := ⟨_, (tKey.tile_cut X).symm⟩
  have e : setAll (fun h _ => shapeCast S1x1024x128 (kHead d (projV x w) (hd r h)) shapeCasts_S1024x128_S1x1024x128)
      (([0, 1, 2, 3] : List (Fin 4)).map id) W₀ = fun h => shapeCast S1x1024x128 (kHead d (projV x w) (hd r h)) shapeCasts_S1024x128_S1x1024x128 :=
    setAll_all _ keys4_nodup keys4_all _
  have hs := wp_steps d (fun h => putK r h (kHead d (projV x w) (hd r h))) id
    (fun h _ => shapeCast S1x1024x128 (kHead d (projV x w) (hd r h)) shapeCasts_S1024x128_S1x1024x128) (fun W => held d (kM r) (slotE 0) fullShare (tKey.tile W))
    (fun h W k => wp_putK d r h (kHead d (projV x w) (hd r h)) (W := W) (k := k) (Q := Q)) [0, 1, 2, 3] W₀ k
  rw [e] at hs
  exact hs

theorem wp_fillKV (x : Vec F S2x512x1024 .f32) (mk mv : Memref sig .tc .vmem S1024x1024 .f32) {q₁ q₂ : PosShare TreeShare} {wk wv : Vec F S1024x1024 .f32}
    {Q : α → sProp 𝕄} {k : _ → BProg (F := F) α} :
    iprop(whole d mk q₁ wk ∗ whole d mv q₂ wv ∗ free2 d 0 0 ∗ free2 d 1 0)
      ⊢ iprop(((whole d mk q₁ wk ∗ whole d mv q₂ wv
            ∗ (held d (kM 0) (slotE 0) fullShare (keysV d x wk 0) ∗ held d (vM 0) (slotE 0) fullShare (valsV x wv 0)
              ∗ held d (kM 1) (slotE 0) fullShare (keysV d x wk 1) ∗ held d (vM 1) (slotE 0) fullShare (valsV x wv 1)))
          -∗ Wp d (k ⟨⟩) Q) -∗ Wp d (fillKV d x mk mv >>= k) Q) := by
  unfold fillKV
  simp only [Prog.bind_assoc]
  iintro ⟨Hk, Hv, H, H'⟩ HK
  ihave H := (free2_open d 0 0) $$ H
  icases H with ⟨⟨%X₁, H₁⟩, ⟨%X₂, H₂⟩⟩
  ihave H' := (free2_open d 1 0) $$ H'
  icases H' with ⟨⟨%X₃, H₃⟩, ⟨%X₄, H₄⟩⟩
  iapply (wp_loadW d mk) $$ Hk
  iintro Hk
  iapply (wp_keys d 0 x wk) $$ H₁
  iintro H₁
  iapply (wp_keys d 1 x wk) $$ H₃
  iintro H₃
  iapply (wp_loadW d mv) $$ Hv
  iintro Hv
  iapply (wp_putV d 0 _) $$ H₂
  iintro H₂
  iapply (wp_putV d 1 _) $$ H₄
  iintro H₄
  iapply HK
  isplitl [Hk]; · iexact Hk
  isplitl [Hv]; · iexact Hv
  isplitl [H₁]; · iexact H₁
  isplitl [H₂]; · iexact H₂
  isplitl [H₃]; · iexact H₃
  iexact H₄

theorem wp_fillQ (x : Vec F S2x512x1024 .f32) (mq : Memref sig .tc .vmem S1024x1024 .f32) {q₁ : PosShare TreeShare} {wq : Vec F S1024x1024 .f32}
    {X : S1024x1024.Idx → Elt F .bf16} {Q : α → sProp 𝕄} {k : _ → BProg (F := F) α} :
    iprop(whole d mq q₁ wq ∗ whole d qM fullShare X)
      ⊢ iprop(((whole d mq q₁ wq ∗ whole d qM fullShare (qrysV d x wq)) -∗ Wp d (k ⟨⟩) Q) -∗ Wp d (fillQ d x mq >>= k) Q) := by
  obtain ⟨W₀, rfl⟩ : ∃ W, X = tHead.tile W := ⟨_, (tHead.tile_cut X).symm⟩
  have e : setAll (fun h _ => qHead d (projV x wq) h) (([0, 1, 2, 3, 4, 5, 6, 7] : List (Fin 8)).map id) W₀ = fun h => qHead d (projV x wq) h :=
    setAll_all _ keys8_nodup keys8_all _
  have hs := wp_steps d (fun h => putQ h (qHead d (projV x wq) h)) id (fun h _ => qHead d (projV x wq) h) (fun W => whole d qM fullShare (tHead.tile W))
    (fun h W k => wp_putQ d h (qHead d (projV x wq) h) (W := W) (k := k) (Q := Q)) [0, 1, 2, 3, 4, 5, 6, 7] W₀ k
  rw [e] at hs
  unfold fillQ qrysV
  simp only [Prog.bind_assoc]
  iintro ⟨Hq, H⟩ HK
  iapply (wp_loadW d mq) $$ Hq
  iintro Hq
  iapply hs $$ H
  iintro H
  iapply HK
  isplitl [Hq] <;> iassumption

/-! ## The passes -/

/-- A head's direction of travel, and its place there. -/
def dirOf (g : Fin 8) : Fin 2 := ⟨g.val / 4, by omega⟩
def inDir (g : Fin 8) : Fin 4 := ⟨g.val % 4, by omega⟩
theorem dirOf_hd (r : Fin 2) (h : Fin 4) : dirOf (hd r h) = r := by revert r h; decide
theorem inDir_hd (r : Fin 2) (h : Fin 4) : inDir (hd r h) = h := by revert r h; decide

/-- A block's part of the row sums and of the accumulator. -/
def expP (XQ : S1024x1024.Idx → Elt F .bf16) (XK : Fin 2 → S1024x512.Idx → Elt F .fp8e4m3) (p : Fin 2 × Fin 8) : FVec F S512x512 .f32 :=
  eV (tBlk.cut XQ p) (kBlk (XK (dirOf p.2)) (p.1, inDir p.2))
def sumP (XQ : S1024x1024.Idx → Elt F .bf16) (XK : Fin 2 → S1024x512.Idx → Elt F .fp8e4m3) (p : Fin 2 × Fin 8) : FVec F S512x1 .f32 :=
  sumV (expP XQ XK p)
def accP (XQ : S1024x1024.Idx → Elt F .bf16) (XK : Fin 2 → S1024x512.Idx → Elt F .fp8e4m3) (XV : Fin 2 → S1024x512.Idx → Elt F .bf16)
    (p : Fin 2 × Fin 8) : FVec F S512x128 .f32 :=
  pvV (expP XQ XK p) (kBlk (XV (dirOf p.2)) (p.1, inDir p.2))

def hkey (r : Fin 2) (p : Fin 2 × Fin 4) : Fin 2 × Fin 8 := (p.1, hd r p.2)

/-- The row sums and the accumulator as pairs of tiles. -/
def pairs (W : Fin 2 × Fin 8 → (S512x1.Idx → Elt F .f32) × (S512x128.Idx → Elt F .f32)) : sProp 𝕄 :=
  iprop(whole d lM fullShare (tSum.tile fun p => (W p).1) ∗ whole d accM fullShare (tBlk.tile fun p => (W p).2))

theorem pairs_update (W : Fin 2 × Fin 8 → (S512x1.Idx → Elt F .f32) × (S512x128.Idx → Elt F .f32)) (p : Fin 2 × Fin 8) (a : S512x1.Idx → Elt F .f32) (b : S512x128.Idx → Elt F .f32) :
    (pairs d (Function.update W p (a, b)) : sProp 𝕄)
      = iprop(whole d lM fullShare (tSum.tile (Function.update (fun p => (W p).1) p a)) ∗ whole d accM fullShare (tBlk.tile (Function.update (fun p => (W p).2) p b))) := by
  unfold pairs
  rw [← update_comp Prod.fst W p (a, b), ← update_comp Prod.snd W p (a, b)]

/-- What both directions hold while the passes read them. -/
def reads (qs : PosShare TreeShare) (s : Fin 2) (r : Fin 2) (XQ : S1024x1024.Idx → Elt F .bf16) (XK : S1024x512.Idx → Elt F .fp8e4m3) (XV : S1024x512.Idx → Elt F .bf16) : sProp 𝕄 :=
  iprop(whole d qM fullShare XQ ∗ held d (kM r) (slotE s) qs XK ∗ held d (vM r) (slotE s) qs XV)

variable {qs : PosShare TreeShare} {XQ : S1024x1024.Idx → Elt F .bf16} {XK : Fin 2 → S1024x512.Idx → Elt F .fp8e4m3} {XV : Fin 2 → S1024x512.Idx → Elt F .bf16}

abbrev firstG (XQ : S1024x1024.Idx → Elt F .bf16) (XK : Fin 2 → S1024x512.Idx → Elt F .fp8e4m3) (XV : Fin 2 → S1024x512.Idx → Elt F .bf16)
    (p : Fin 2 × Fin 8) (_ : (S512x1.Idx → Elt F .f32) × (S512x128.Idx → Elt F .f32)) : (S512x1.Idx → Elt F .f32) × (S512x128.Idx → Elt F .f32) :=
  (sumP XQ XK p, accP XQ XK XV p)
abbrev nextG (XQ : S1024x1024.Idx → Elt F .bf16) (XK : Fin 2 → S1024x512.Idx → Elt F .fp8e4m3) (XV : Fin 2 → S1024x512.Idx → Elt F .bf16)
    (p : Fin 2 × Fin 8) (w : (S512x1.Idx → Elt F .f32) × (S512x128.Idx → Elt F .f32)) : (S512x1.Idx → Elt F .f32) × (S512x128.Idx → Elt F .f32) :=
  (addf (φ := .f32) w.1 (sumP XQ XK p), addf (φ := .f32) w.2 (accP XQ XK XV p))

theorem wp_firstBlk (r : Fin 2) (p : Fin 2 × Fin 4) (W : Fin 2 × Fin 8 → (S512x1.Idx → Elt F .f32) × (S512x128.Idx → Elt F .f32)) {Q : α → sProp 𝕄} (k : PUnit → BProg (F := F) α) :
    iprop(reads d qs 0 r XQ (XK r) (XV r) ∗ pairs d W)
      ⊢ iprop(((reads d qs 0 r XQ (XK r) (XV r) ∗ pairs d (Function.update W (hkey r p) (firstG XQ XK XV (hkey r p) (W (hkey r p))))) -∗ Wp d (k ⟨⟩) Q)
        -∗ Wp d (firstBlk r p >>= k) Q) := by
  rw [pairs_update]
  unfold firstBlk reads pairs sumP accP expP hkey
  rw [dirOf_hd, inDir_hd]
  simp only [Prog.bind_assoc]
  iintro ⟨⟨Hq, Hk, Hv⟩, Hl, Ha⟩ HK
  iapply (wp_loadQ d p.1 (hd r p.2)) $$ Hq
  iintro Hq
  iapply (wp_loadK d r 0 p.1 p.2) $$ Hk
  iintro Hk
  iapply (wp_loadV d r 0 p.1 p.2) $$ Hv
  iintro Hv
  iapply (wp_storeL d p.1 (hd r p.2) _) $$ Hl
  iintro Hl
  iapply (wp_storeA d p.1 (hd r p.2) _) $$ Ha
  iintro Ha
  iapply HK
  isplitl [Hq Hk Hv]
  · isplitl [Hq]; · iexact Hq
    isplitl [Hk] <;> iassumption
  isplitl [Hl] <;> iassumption

theorem wp_nextBlk (r s : Fin 2) (p : Fin 2 × Fin 4) (W : Fin 2 × Fin 8 → (S512x1.Idx → Elt F .f32) × (S512x128.Idx → Elt F .f32)) {Q : α → sProp 𝕄} (k : PUnit → BProg (F := F) α) :
    iprop(reads d qs s r XQ (XK r) (XV r) ∗ pairs d W)
      ⊢ iprop(((reads d qs s r XQ (XK r) (XV r) ∗ pairs d (Function.update W (hkey r p) (nextG XQ XK XV (hkey r p) (W (hkey r p))))) -∗ Wp d (k ⟨⟩) Q)
        -∗ Wp d (nextBlk r s p >>= k) Q) := by
  rw [pairs_update]
  unfold nextBlk reads pairs sumP accP expP hkey
  rw [dirOf_hd, inDir_hd]
  simp only [Prog.bind_assoc]
  have e₁ : tSum.cut (tSum.tile fun p => (W p).1) (p.1, hd r p.2) = (W (p.1, hd r p.2)).1 := by rw [tSum.cut_tile]
  have e₂ : tBlk.cut (tBlk.tile fun p => (W p).2) (p.1, hd r p.2) = (W (p.1, hd r p.2)).2 := by rw [tBlk.cut_tile]
  rw [← e₁, ← e₂]
  iintro ⟨⟨Hq, Hk, Hv⟩, Hl, Ha⟩ HK
  iapply (wp_loadQ d p.1 (hd r p.2)) $$ Hq
  iintro Hq
  iapply (wp_loadK d r s p.1 p.2) $$ Hk
  iintro Hk
  iapply (wp_loadV d r s p.1 p.2) $$ Hv
  iintro Hv
  iapply (wp_loadL d p.1 (hd r p.2)) $$ Hl
  iintro Hl
  iapply (wp_storeL d p.1 (hd r p.2) _) $$ Hl
  iintro Hl
  iapply (wp_loadA d p.1 (hd r p.2)) $$ Ha
  iintro Ha
  iapply (wp_storeA d p.1 (hd r p.2) _) $$ Ha
  iintro Ha
  iapply HK
  isplitl [Hq Hk Hv]
  · isplitl [Hq]; · iexact Hq
    isplitl [Hk] <;> iassumption
  isplitl [Hl] <;> iassumption

theorem keys_nodup : (blks4.map (hkey 0) ++ blks4.map (hkey 1)).Nodup := by decide
theorem keys_all (p : Fin 2 × Fin 8) : p ∈ blks4.map (hkey 0) ++ blks4.map (hkey 1) := by revert p; decide

/-- The four slots that a pass reads. -/
def pass (qs : PosShare TreeShare) (s : Fin 2) (XQ : S1024x1024.Idx → Elt F .bf16) (XK : Fin 2 → S1024x512.Idx → Elt F .fp8e4m3)
    (XV : Fin 2 → S1024x512.Idx → Elt F .bf16) : sProp 𝕄 :=
  iprop(whole d qM fullShare XQ ∗ held d (kM 0) (slotE s) qs (XK 0) ∗ held d (vM 0) (slotE s) qs (XV 0)
    ∗ held d (kM 1) (slotE s) qs (XK 1) ∗ held d (vM 1) (slotE s) qs (XV 1))

theorem wp_first {Wl : S1024x8.Idx → Elt F .f32} {Wa : S1024x1024.Idx → Elt F .f32} {Q : α → sProp 𝕄} {k : PUnit → BProg (F := F) α} :
    iprop(pass d qs 0 XQ XK XV ∗ whole d lM fullShare Wl ∗ whole d accM fullShare Wa)
      ⊢ iprop(((pass d qs 0 XQ XK XV ∗ pairs d fun p => (sumP XQ XK p, accP XQ XK XV p)) -∗ Wp d (k ⟨⟩) Q) -∗ Wp d (first >>= k) Q) := by
  have e := setAll_append (firstG XQ XK XV) (blks4.map (hkey 0)) (blks4.map (hkey 1)) (fun p => (tSum.cut Wl p, tBlk.cut Wa p))
  rw [setAll_all _ keys_nodup keys_all] at e
  rw [show (fun p => (sumP XQ XK p, accP XQ XK XV p)) = _ from e]
  have h₀ : iprop(whole d lM fullShare Wl ∗ whole d accM fullShare Wa) ⊢ (pairs d (fun p => (tSum.cut Wl p, tBlk.cut Wa p)) : sProp 𝕄) :=
    Entails.of_eq (by
      unfold pairs
      rw [show (tSum.tile fun p => (tSum.cut Wl p, tBlk.cut Wa p).1) = Wl from tSum.tile_cut Wl, show (tBlk.tile fun p => (tSum.cut Wl p, tBlk.cut Wa p).2) = Wa from tBlk.tile_cut Wa])
  unfold first pass
  simp only [Prog.bind_assoc]
  iintro ⟨⟨Hq, Hk, Hv, Hk', Hv'⟩, HW⟩ HK
  ihave HW := h₀ $$ HW
  iapply (wp_steps d (firstBlk 0) (hkey 0) (firstG XQ XK XV) (fun W => iprop(reads d qs 0 0 XQ (XK 0) (XV 0) ∗ pairs d W)) (fun p W k => wp_firstBlk d 0 p W k) blks4 _ _) $$ [Hq Hk Hv HW]
  · unfold reads
    isplitl [Hq Hk Hv]
    · isplitl [Hq]; · iexact Hq
      isplitl [Hk] <;> iassumption
    iexact HW
  unfold reads
  iintro ⟨⟨Hq, Hk, Hv⟩, HW⟩
  iapply (wp_steps d (firstBlk 1) (hkey 1) (firstG XQ XK XV) (fun W => iprop(reads d qs 0 1 XQ (XK 1) (XV 1) ∗ pairs d W)) (fun p W k => wp_firstBlk d 1 p W k) blks4 _ _) $$ [Hq Hk' Hv' HW]
  · unfold reads
    isplitl [Hq Hk' Hv']
    · isplitl [Hq]; · iexact Hq
      isplitl [Hk'] <;> iassumption
    iexact HW
  unfold reads
  iintro ⟨⟨Hq, Hk', Hv'⟩, HW⟩
  iapply HK
  isplitl [Hq Hk Hv Hk' Hv']
  · isplitl [Hq]; · iexact Hq
    isplitl [Hk]; · iexact Hk
    isplitl [Hv]; · iexact Hv
    isplitl [Hk'] <;> iassumption
  iexact HW

theorem wp_next (s : Fin 2) (W : Fin 2 × Fin 8 → (S512x1.Idx → Elt F .f32) × (S512x128.Idx → Elt F .f32)) {Q : α → sProp 𝕄} {k : PUnit → BProg (F := F) α} :
    iprop(pass d qs s XQ XK XV ∗ pairs d W)
      ⊢ iprop(((pass d qs s XQ XK XV ∗ pairs d fun p => nextG XQ XK XV p (W p)) -∗ Wp d (k ⟨⟩) Q) -∗ Wp d (next s >>= k) Q) := by
  have e := setAll_append (nextG XQ XK XV) (blks4.map (hkey 0)) (blks4.map (hkey 1)) W
  rw [setAll_all _ keys_nodup keys_all] at e
  rw [e]
  unfold next pass
  simp only [Prog.bind_assoc]
  iintro ⟨⟨Hq, Hk, Hv, Hk', Hv'⟩, HW⟩ HK
  iapply (wp_steps d (nextBlk 0 s) (hkey 0) (nextG XQ XK XV) (fun W => iprop(reads d qs s 0 XQ (XK 0) (XV 0) ∗ pairs d W)) (fun p W k => wp_nextBlk d 0 s p W k) blks4 _ _) $$ [Hq Hk Hv HW]
  · unfold reads
    isplitl [Hq Hk Hv]
    · isplitl [Hq]; · iexact Hq
      isplitl [Hk] <;> iassumption
    iexact HW
  unfold reads
  iintro ⟨⟨Hq, Hk, Hv⟩, HW⟩
  iapply (wp_steps d (nextBlk 1 s) (hkey 1) (nextG XQ XK XV) (fun W => iprop(reads d qs s 1 XQ (XK 1) (XV 1) ∗ pairs d W)) (fun p W k => wp_nextBlk d 1 s p W k) blks4 _ _) $$ [Hq Hk' Hv' HW]
  · unfold reads
    isplitl [Hq Hk' Hv']
    · isplitl [Hq]; · iexact Hq
      isplitl [Hk'] <;> iassumption
    iexact HW
  unfold reads
  iintro ⟨⟨Hq, Hk', Hv'⟩, HW⟩
  iapply HK
  isplitl [Hq Hk Hv Hk' Hv']
  · isplitl [Hq]; · iexact Hq
    isplitl [Hk]; · iexact Hk
    isplitl [Hv]; · iexact Hv
    isplitl [Hk'] <;> iassumption
  iexact HW

/-! ## The end -/

/-- The quotients, over the queries. -/
def quotP (W : Fin 2 × Fin 8 → (S512x1.Idx → Elt F .f32) × (S512x128.Idx → Elt F .f32)) : S1024x1024.Idx → Elt F .bf16 :=
  tBlk.tile fun p => quotV (W p).2 (W p).1

theorem wp_quots (W : Fin 2 × Fin 8 → (S512x1.Idx → Elt F .f32) × (S512x128.Idx → Elt F .f32)) {X : S1024x1024.Idx → Elt F .bf16} {Q : α → sProp 𝕄} {k : PUnit → BProg (F := F) α} :
    iprop(whole d qM fullShare X ∗ pairs d W)
      ⊢ iprop(((whole d qM fullShare (quotP W) ∗ pairs d W) -∗ Wp d (k ⟨⟩) Q) -∗ Wp d (steps quotBlk blks8 >>= k) Q) := by
  obtain ⟨W₀, rfl⟩ : ∃ W, X = tBlk.tile W := ⟨_, (tBlk.tile_cut X).symm⟩
  have e : setAll (fun p _ => quotV (W p).2 (W p).1) (blks8.map id) W₀ = fun p => quotV (W p).2 (W p).1 :=
    setAll_all _ keys16_nodup keys16_all _
  unfold quotP
  rw [← e]
  refine wp_steps d quotBlk id (fun p _ => quotV (W p).2 (W p).1) (fun V => iprop(whole d qM fullShare (tBlk.tile V) ∗ pairs d W)) (fun p V k => ?_) _ _ _
  unfold quotBlk pairs
  simp only [Prog.bind_assoc]
  have e₁ : tSum.cut (tSum.tile fun p => (W p).1) p = (W p).1 := by rw [tSum.cut_tile]
  have e₂ : tBlk.cut (tBlk.tile fun p => (W p).2) p = (W p).2 := by rw [tBlk.cut_tile]
  rw [show (W (id p)).1 = _ from e₁.symm, show (W (id p)).2 = _ from e₂.symm]
  iintro ⟨Hq, Hl, Ha⟩ HK
  iapply (wp_loadA d p.1 p.2) $$ Ha
  iintro Ha
  iapply (wp_loadL d p.1 p.2) $$ Hl
  iintro Hl
  iapply (wp_storeQ d p.1 p.2 _) $$ Hq
  iintro Hq
  iapply HK
  isplitl [Hq]; · iexact Hq
  isplitl [Hl] <;> iassumption

theorem wp_finish (mo : Memref sig .tc .vmem S1024x1024 .f32) (mr : Memref sig .tc .vmem S2x512x1024 .f32) {q₁ : PosShare TreeShare} {wo : Vec F S1024x1024 .f32}
    {X : S1024x1024.Idx → Elt F .bf16} {Y : S2x512x1024.Idx → Elt F .f32} {Q : α → sProp 𝕄} {k : PUnit → BProg (F := F) α} :
    iprop(whole d qM fullShare X ∗ whole d mo q₁ wo ∗ whole d mr fullShare Y)
      ⊢ iprop(((whole d qM fullShare X ∗ whole d mo q₁ wo ∗ whole d mr fullShare (outV X wo)) -∗ Wp d (k ⟨⟩) Q) -∗ Wp d (finish mo mr >>= k) Q) := by
  unfold finish
  simp only [Prog.bind_assoc]
  have e' := tInp.tile_cut Y
  iintro ⟨Hq, Ho, Hr⟩ HK
  iapply (show _ ⊢ iprop(_ -∗ _) from wp_get 𝒱₀ tMat d qM ()) $$ Hq
  iintro Hq
  iapply (wp_loadW d mo) $$ Ho
  iintro Ho
  iapply (wp_loadX d mr) $$ Hr
  iintro Hr
  ihave Hr := (Entails.of_eq (congrArg (fun Y => whole d mr fullShare Y) e'.symm)) $$ Hr
  iapply (wp_put 𝒱₀ tInp d mr () _) $$ Hr
  iintro Hr
  iapply HK
  isplitl [Hq]; · iexact Hq
  isplitl [Ho]; · iexact Ho
  iexact Hr

end Steps

end Cert.Attn

end
-- ==== Proof.Body.lean ====
/- The whole body of one device: from its tokens, credits and empty buffers to its result. -/
module

public import proofs.«01_k».proof.Proof.Pass

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Cert.KernelIdeal
open Facts₀ Facts

attribute [local instance] theFacts

variable {F : FTy → Type}

local notation "𝕄" => MT nD τ sig ℕ (Elt F) ℕ UU ℕ

/-! ## What each device has and computes -/

/-- The inputs of the devices: the rows of `x` and the weights. -/
structure Ins (F : FTy → Type) where
  x : Dev nD → Vec F S2x512x1024 .f32
  wq : Dev nD → Vec F S1024x1024 .f32
  wk : Dev nD → Vec F S1024x1024 .f32
  wv : Dev nD → Vec F S1024x1024 .f32
  wo : Dev nD → Vec F S1024x1024 .f32

section Values

variable [FloatOps F] [Named F] (I : Ins F)

/-- The blocks that travel: the keys and the values of a device, by direction. -/
def Ins.blk : (t : Bool) → Dev nD → Fin 2 → S1024x512.Idx → Elt F (elt t)
  | false => fun o r => keysV o (I.x o) (I.wk o) r
  | true => fun o r => valsV (I.x o) (I.wv o) r
/-- The keys and values that device `d` reads after `n` hops. -/
def Ins.keys (n : ℕ) (d : Dev nD) (r : Fin 2) : S1024x512.Idx → Elt F .fp8e4m3 := I.blk false (org r n d) r
def Ins.vals (n : ℕ) (d : Dev nD) (r : Fin 2) : S1024x512.Idx → Elt F .bf16 := I.blk true (org r n d) r
def Ins.qrys (d : Dev nD) : S1024x1024.Idx → Elt F .bf16 := qrysV d (I.x d) (I.wq d)
/-- The row sums and the accumulator after the passes over the blocks `0 … n`. -/
def Ins.sums (d : Dev nD) : ℕ → Fin 2 × Fin 8 → (S512x1.Idx → Elt F .f32) × (S512x128.Idx → Elt F .f32)
  | 0 => fun p => (sumP (I.qrys d) (I.keys 0 d) p, accP (I.qrys d) (I.keys 0 d) (I.vals 0 d) p)
  | n + 1 => fun p => nextG (I.qrys d) (I.keys (n + 1) d) (I.vals (n + 1) d) p (Ins.sums d n p)
/-- The result. -/
def Ins.res (d : Dev nD) : S2x512x1024.Idx → Elt F .f32 := outV (quotP (I.sums d 3)) (I.wo d)

end Values

section Body

variable [FloatOps F] [Named F] (I : Ins F) (K : Dev nD × Kd → ℕ) (d : Dev nD)

/-- What a device has for the credits of one direction, before the first. -/
def credStart (r : Fin 2) : sProp 𝕄 :=
  iprop((dutyTok ER (kcell (back r d, .inr (.cr r))) 0 false ∗ cred (tallyAt (kcell (d, .inr (.cr r))) 3 1))
    ∗ (dutyTok ER (kcell (back r d, .inr (.cr r))) 1 false ∗ cred (tallyAt (kcell (d, .inr (.cr r))) 5 1))
    ∗ atPos ER (kcell (d, .inr (.cr r))) 0 ∅ 0)

/-- What a device talks with. -/
def talk : sProp 𝕄 :=
  iprop(barRes d (.inl ()) 1 ∗ barRes d (.inr .fin) 7 ∗ all4 (ready d 0) ∗ all4 (ready d 1) ∗ all4 (ready d 2) ∗ credStart d 0 ∗ credStart d 1)

/-- All its counters at zero. -/
def quiet : sProp 𝕄 :=
  iprop(semVal (kcell (d, .inl ())) 0 ∗ semVal (kcell (d, .inr .fin)) 0 ∗ all4 (shut d 0) ∗ all4 (shut d 1) ∗ all4 (shut d 2)
    ∗ semVal (kcell (d, .inr (.cr 0))) 0 ∗ semVal (kcell (d, .inr (.cr 1))) 0)

/-- Its buffers, whatever they hold. -/
def bufs : sProp 𝕄 :=
  iprop((∃ X, whole d qM fullShare X) ∗ (∃ X, whole d accM fullShare X) ∗ (∃ X, whole d lM fullShare X)
    ∗ free2 d 0 0 ∗ free2 d 0 1 ∗ free2 d 1 0 ∗ free2 d 1 1)

variable {q : PosShare TreeShare}

theorem slots_free (blk : (t : Bool) → Dev nD → Fin 2 → S1024x512.Idx → Elt F (elt t)) (s : Fin 2) (n : ℕ) :
    (slots blk fullShare d s n : sProp 𝕄) ⊢ iprop(free2 d 0 s ∗ free2 d 1 s) := by
  unfold slots all4 free2 free
  iintro ⟨H₁, H₂, H₃, H₄⟩
  isplitl [H₁ H₂]
  · isplitl [H₁]
    · iexists _; iexact H₁
    · iexists _; iexact H₂
  · isplitl [H₃]
    · iexists _; iexact H₃
    · iexists _; iexact H₄

theorem pass_slots (s : Fin 2) (n : ℕ) (X : S1024x1024.Idx → Elt F .bf16) :
    (pass d q s X (I.keys n d) (I.vals n d) : sProp 𝕄) = iprop(whole d qM fullShare X ∗ slots I.blk q d s n) := rfl

theorem wp_first_slots {Wl : S1024x8.Idx → Elt F .f32} {Wa : S1024x1024.Idx → Elt F .f32} {α : Type} {Q : α → sProp 𝕄} {k : PUnit → BProg (F := F) α} :
    iprop(whole d qM fullShare (I.qrys d) ∗ slots I.blk q d 0 0 ∗ whole d lM fullShare Wl ∗ whole d accM fullShare Wa)
      ⊢ iprop(((whole d qM fullShare (I.qrys d) ∗ slots I.blk q d 0 0 ∗ pairs d (I.sums d 0)) -∗ Wp d (k ⟨⟩) Q) -∗ Wp d (first >>= k) Q) := by
  have h := wp_first d (qs := q) (XQ := I.qrys d) (XK := I.keys 0 d) (XV := I.vals 0 d) (Wl := Wl) (Wa := Wa) (Q := Q) (k := k)
  rw [pass_slots] at h
  iintro ⟨Hq, Hs, Hl, Ha⟩ HK
  iapply h $$ [Hq Hs Hl Ha]
  · isplitl [Hq Hs]
    · isplitl [Hq] <;> iassumption
    isplitl [Hl] <;> iassumption
  iintro ⟨⟨Hq, Hs⟩, Hp⟩
  iapply HK
  isplitl [Hq]; · iexact Hq
  isplitl [Hs]; · iexact Hs
  iexact Hp

theorem wp_next_slots (s : Fin 2) (n : ℕ) {α : Type} {Q : α → sProp 𝕄} {k : PUnit → BProg (F := F) α} :
    iprop(whole d qM fullShare (I.qrys d) ∗ slots I.blk q d s (n + 1) ∗ pairs d (I.sums d n))
      ⊢ iprop(((whole d qM fullShare (I.qrys d) ∗ slots I.blk q d s (n + 1) ∗ pairs d (I.sums d (n + 1))) -∗ Wp d (k ⟨⟩) Q)
        -∗ Wp d (next s >>= k) Q) := by
  have h := wp_next d (qs := q) (XQ := I.qrys d) (XK := I.keys (n + 1) d) (XV := I.vals (n + 1) d) s (I.sums d n) (Q := Q) (k := k)
  rw [pass_slots] at h
  iintro ⟨Hq, Hs, Hp⟩ HK
  iapply h $$ [Hq Hs Hp]
  · isplitl [Hq Hs]
    · isplitl [Hq] <;> iassumption
    iexact Hp
  iintro ⟨⟨Hq, Hs⟩, Hp⟩
  iapply HK
  isplitl [Hq]; · iexact Hq
  isplitl [Hs]; · iexact Hs
  iexact Hp

theorem wp_fillKV_slots (mk mv : Memref sig .tc .vmem S1024x1024 .f32) {q₁ q₂ : PosShare TreeShare} {α : Type} {Q : α → sProp 𝕄} {k : PUnit → BProg (F := F) α} :
    iprop(whole d mk q₁ (I.wk d) ∗ whole d mv q₂ (I.wv d) ∗ free2 d 0 0 ∗ free2 d 1 0)
      ⊢ iprop(((whole d mk q₁ (I.wk d) ∗ whole d mv q₂ (I.wv d) ∗ slots I.blk fullShare d 0 0) -∗ Wp d (k ⟨⟩) Q)
        -∗ Wp d (fillKV d (I.x d) mk mv >>= k) Q) :=
  wp_fillKV d (I.x d) mk mv

/-- What is still owed after each of the talking steps. -/
abbrev due₆ : List Tk := [.fin false, .fin true]
abbrev due₅ : List Tk := hop 2 ++ due₆
abbrev due₄ : List Tk := .cr 0 1 :: .cr 1 1 :: due₅
abbrev due₃ : List Tk := hop 1 ++ due₄
abbrev due₂ : List Tk := .cr 0 0 :: .cr 1 0 :: due₃
abbrev due₁ : List Tk := hop 0 ++ due₂
theorem dues_eq : dues = .bar false :: .bar true :: due₁ := rfl

theorem above_meet : ∀ u ∈ due₁, 1 < u.lvl := by decide
theorem above_waits₀ : ∀ u ∈ due₂, 2 + 2 * (0 : Fin 3).val < u.lvl := by decide
theorem above_credits₀ : ∀ u ∈ due₃, 3 + 2 * (0 : Fin 2).val < u.lvl := by decide
theorem above_waits₁ : ∀ u ∈ due₄, 2 + 2 * (1 : Fin 3).val < u.lvl := by decide
theorem above_credits₁ : ∀ u ∈ due₅, 3 + 2 * (1 : Fin 2).val < u.lvl := by decide
theorem above_waits₂ : ∀ u ∈ due₆, 2 + 2 * (2 : Fin 3).val < u.lvl := by decide

/-- Each step at its place. -/
theorem wp_sends₀ {α : Type} {Q : α → sProp 𝕄} {k : PUnit → BProg (F := F) α} :
    iprop(records I.blk K ∗ owing d due₁ ∗ slots I.blk fullShare d 0 0 ∗ free2 (fwd 0 d) 0 1 ∗ free2 (fwd 1 d) 1 1 ∗ all4 (ready d 0))
      ⊢ iprop(((owing d due₂ ∗ slots I.blk fullShare.right d 0 0 ∗ all4 (flying d 0)) -∗ Wp d (k ⟨⟩) Q) -∗ Wp d (sends d 0 >>= k) Q) := by
  have hr := fun r => records_reached I.blk K (d, .inr (.cr r))
  iintro ⟨#HR, HO, Hs, H₀, H₁, Hr⟩
  iapply (show _ from wp_sends I.blk K 0 d due₂ (k := k) (Q := Q))
  isplitr; · iexact HR
  isplitl [HO]; · iexact HO
  isplitl [Hs]; · iexact Hs
  isplitl [H₀]; · iexact H₀
  isplitl [H₁]; · iexact H₁
  isplitl [Hr]; · iexact Hr
  isplitr
  · iapply (hr 0); iexact HR
  · iapply (hr 1); iexact HR
theorem wp_sends₁ {α : Type} {Q : α → sProp 𝕄} {k : PUnit → BProg (F := F) α} :
    iprop(records I.blk K ∗ owing d due₃ ∗ slots I.blk fullShare d 1 1 ∗ free2 (fwd 0 d) 0 0 ∗ free2 (fwd 1 d) 1 0 ∗ all4 (ready d 1)
        ∗ reached ER (kcell (d, .inr (.cr 0))) 1 ∗ reached ER (kcell (d, .inr (.cr 1))) 1)
      ⊢ iprop(((owing d due₄ ∗ slots I.blk fullShare.right d 1 1 ∗ all4 (flying d 1)) -∗ Wp d (k ⟨⟩) Q) -∗ Wp d (sends d 1 >>= k) Q) :=
  wp_sends I.blk K 1 d due₄
theorem wp_sends₂ {α : Type} {Q : α → sProp 𝕄} {k : PUnit → BProg (F := F) α} :
    iprop(records I.blk K ∗ owing d due₅ ∗ slots I.blk fullShare d 0 2 ∗ free2 (fwd 0 d) 0 1 ∗ free2 (fwd 1 d) 1 1 ∗ all4 (ready d 2))
      ⊢ iprop(((owing d due₆ ∗ slots I.blk fullShare.right d 0 2 ∗ all4 (flying d 2)) -∗ Wp d (k ⟨⟩) Q) -∗ Wp d (sends d 2 >>= k) Q) := by
  have hr := fun r => records_reached I.blk K (d, .inr (.cr r))
  iintro ⟨#HR, HO, Hs, H₀, H₁, Hr⟩
  iapply (show _ from wp_sends I.blk K 2 d due₆ (k := k) (Q := Q))
  isplitr; · iexact HR
  isplitl [HO]; · iexact HO
  isplitl [Hs]; · iexact Hs
  isplitl [H₀]; · iexact H₀
  isplitl [H₁]; · iexact H₁
  isplitl [Hr]; · iexact Hr
  isplitr
  · iapply (hr 0); iexact HR
  · iapply (hr 1); iexact HR
theorem wp_waits₀ {α : Type} {Q : α → sProp 𝕄} {k : PUnit → BProg (F := F) α} :
    iprop(records I.blk K ∗ levAts (L 8) lv ∗ owing d due₂ ∗ slots I.blk fullShare.right d 0 0 ∗ all4 (flying d 0))
      ⊢ iprop(((owing d due₂ ∗ slots I.blk fullShare d 0 0 ∗ slots I.blk fullShare d 1 1
            ∗ reached ER (kcell (back 0 d, .inr (.cr 0))) 0 ∗ reached ER (kcell (back 1 d, .inr (.cr 1))) 0 ∗ all4 (shut d 0))
          -∗ Wp d (k ⟨⟩) Q) -∗ Wp d (waits 0 >>= k) Q) :=
  wp_waits I.blk K 0 d due₂ above_waits₀
theorem wp_waits₁ {α : Type} {Q : α → sProp 𝕄} {k : PUnit → BProg (F := F) α} :
    iprop(records I.blk K ∗ levAts (L 8) lv ∗ owing d due₄ ∗ slots I.blk fullShare.right d 1 1 ∗ all4 (flying d 1))
      ⊢ iprop(((owing d due₄ ∗ slots I.blk fullShare d 1 1 ∗ slots I.blk fullShare d 0 2
            ∗ reached ER (kcell (back 0 d, .inr (.cr 0))) 1 ∗ reached ER (kcell (back 1 d, .inr (.cr 1))) 1 ∗ all4 (shut d 1))
          -∗ Wp d (k ⟨⟩) Q) -∗ Wp d (waits 1 >>= k) Q) :=
  wp_waits I.blk K 1 d due₄ above_waits₁
theorem wp_waits₂ {α : Type} {Q : α → sProp 𝕄} {k : PUnit → BProg (F := F) α} :
    iprop(records I.blk K ∗ levAts (L 8) lv ∗ owing d due₆ ∗ slots I.blk fullShare.right d 0 2 ∗ all4 (flying d 2))
      ⊢ iprop(((owing d due₆ ∗ slots I.blk fullShare d 0 2 ∗ slots I.blk fullShare d 1 3
            ∗ reached ER (kcell (back 0 d, .inr (.cr 0))) 0 ∗ reached ER (kcell (back 1 d, .inr (.cr 1))) 0 ∗ all4 (shut d 2))
          -∗ Wp d (k ⟨⟩) Q) -∗ Wp d (waits 2 >>= k) Q) :=
  wp_waits I.blk K 2 d due₆ above_waits₂
/-- The first and the second round of credits. -/
theorem wp_credits₀ {α : Type} {Q : α → sProp 𝕄} {k : PUnit → BProg (F := F) α} :
    iprop(records I.blk K ∗ levAts (L 8) lv ∗ owing d due₂ ∗ slots I.blk fullShare d 0 0
        ∗ (dutyTok ER (kcell (back 0 d, .inr (.cr 0))) 0 false ∗ cred (tallyAt (kcell (d, .inr (.cr 0))) 3 1))
        ∗ (dutyTok ER (kcell (back 1 d, .inr (.cr 1))) 0 false ∗ cred (tallyAt (kcell (d, .inr (.cr 1))) 3 1))
        ∗ atPos ER (kcell (d, .inr (.cr 0))) 0 ∅ 0 ∗ atPos ER (kcell (d, .inr (.cr 1))) 0 ∅ 0)
      ⊢ iprop(((owing d due₃ ∗ (free2 (fwd 0 d) 0 0 ∗ atPos ER (kcell (d, .inr (.cr 0))) 1 ∅ 0 ∗ reached ER (kcell (d, .inr (.cr 0))) 1)
            ∗ (free2 (fwd 1 d) 1 0 ∗ atPos ER (kcell (d, .inr (.cr 1))) 1 ∅ 0 ∗ reached ER (kcell (d, .inr (.cr 1))) 1))
          -∗ Wp d (k ⟨⟩) Q) -∗ Wp d (credits d 0 >>= k) Q) := by
  have hr := fun r => records_reached I.blk K (back r d, .inr (.cr r))
  iintro ⟨#HR, #Hlev, HO, Hs, ⟨Ht₀, Hc₀⟩, ⟨Ht₁, Hc₁⟩, Ha₀, Ha₁⟩
  ihave Hs := (slots_free d I.blk 0 0) $$ Hs
  icases Hs with ⟨Hs₀, Hs₁⟩
  iapply (show _ from wp_credits I.blk K 0 d due₃ above_credits₀ (k := k) (Q := Q))
  isplitr; · iexact HR
  isplitr; · iexact Hlev
  isplitl [HO]; · iexact HO
  isplitl [Hs₀]; · iexact Hs₀
  isplitl [Hs₁]; · iexact Hs₁
  unfold credRes
  isplitl [Ht₀ Hc₀ Ha₀]
  · isplitl [Ht₀]; · iexact Ht₀
    isplitl [Hc₀]; · iexact Hc₀
    isplitl [Ha₀]; · iexact Ha₀
    iapply (hr 0); iexact HR
  · isplitl [Ht₁]; · iexact Ht₁
    isplitl [Hc₁]; · iexact Hc₁
    isplitl [Ha₁]; · iexact Ha₁
    iapply (hr 1); iexact HR
theorem wp_credits₁ {α : Type} {Q : α → sProp 𝕄} {k : PUnit → BProg (F := F) α} :
    iprop(records I.blk K ∗ levAts (L 8) lv ∗ owing d due₄ ∗ slots I.blk fullShare d 1 1
        ∗ (dutyTok ER (kcell (back 0 d, .inr (.cr 0))) 1 false ∗ cred (tallyAt (kcell (d, .inr (.cr 0))) 5 1))
        ∗ (dutyTok ER (kcell (back 1 d, .inr (.cr 1))) 1 false ∗ cred (tallyAt (kcell (d, .inr (.cr 1))) 5 1))
        ∗ atPos ER (kcell (d, .inr (.cr 0))) 1 ∅ 0 ∗ atPos ER (kcell (d, .inr (.cr 1))) 1 ∅ 0
        ∗ reached ER (kcell (back 0 d, .inr (.cr 0))) 1 ∗ reached ER (kcell (back 1 d, .inr (.cr 1))) 1)
      ⊢ iprop(((owing d due₅ ∗ free2 (fwd 0 d) 0 1 ∗ free2 (fwd 1 d) 1 1 ∗ semVal (kcell (d, .inr (.cr 0))) 0 ∗ semVal (kcell (d, .inr (.cr 1))) 0)
          -∗ Wp d (k ⟨⟩) Q) -∗ Wp d (credits d 1 >>= k) Q) := by
  iintro ⟨#HR, #Hlev, HO, Hs, ⟨Ht₀, Hc₀⟩, ⟨Ht₁, Hc₁⟩, Ha₀, Ha₁, Hr₀, Hr₁⟩ HK
  ihave Hs := (slots_free d I.blk 1 1) $$ Hs
  icases Hs with ⟨Hs₀, Hs₁⟩
  iapply (wp_credits I.blk K 1 d due₅ above_credits₁ (k := k) (Q := Q)) $$ [HO Hs₀ Hs₁ Ht₀ Hc₀ Ht₁ Hc₁ Ha₀ Ha₁ Hr₀ Hr₁]
  · isplitr; · iexact HR
    isplitr; · iexact Hlev
    isplitl [HO]; · iexact HO
    isplitl [Hs₀]; · iexact Hs₀
    isplitl [Hs₁]; · iexact Hs₁
    unfold credRes
    isplitl [Ht₀ Hc₀ Ha₀ Hr₀]
    · isplitl [Ht₀]; · iexact Ht₀
      isplitl [Hc₀]; · iexact Hc₀
      isplitl [Ha₀]; · iexact Ha₀
      iexact Hr₀
    · isplitl [Ht₁]; · iexact Ht₁
      isplitl [Hc₁]; · iexact Hc₁
      isplitl [Ha₁]; · iexact Ha₁
      iexact Hr₁
  unfold credEnd
  iintro ⟨HO, ⟨Hf₀, Ha₀, -⟩, Hf₁, Ha₁, -⟩
  imod (show iprop(records I.blk K ∗ atPos ER (kcell (d, .inr (.cr 0))) ((1 : Fin 2).val + 1) ∅ 0) ⊢ |={Set.univ}=> semVal (kcell (d, .inr (.cr 0))) 0 from
    close_cell I.blk K d (.inr (.cr 0)) 2 rfl) $$ [Ha₀] with Hv₀
  · isplitr; · iexact HR
    iexact Ha₀
  imod (show iprop(records I.blk K ∗ atPos ER (kcell (d, .inr (.cr 1))) ((1 : Fin 2).val + 1) ∅ 0) ⊢ |={Set.univ}=> semVal (kcell (d, .inr (.cr 1))) 0 from
    close_cell I.blk K d (.inr (.cr 1)) 2 rfl) $$ [Ha₁] with Hv₁
  · isplitr; · iexact HR
    iexact Ha₁
  iapply HK
  isplitl [HO]; · iexact HO
  isplitl [Hf₀]; · iexact Hf₀
  isplitl [Hf₁]; · iexact Hf₁
  isplitl [Hv₀] <;> iassumption

set_option maxHeartbeats 1000000 in
/-- The body. -/
theorem wp_body (m0 : Memref sig .tc .vmem S2x512x1024 .f32) (m1 m2 m3 m4 : Memref sig .tc .vmem S1024x1024 .f32) (m5 : Memref sig .tc .vmem S2x512x1024 .f32)
    {Y : S2x512x1024.Idx → Elt F .f32} {Q : PUnit → sProp 𝕄} :
    iprop(records I.blk K ∗ levAts (L 8) lv ∗ owing d dues ∗ talk d ∗ bufs d
        ∗ whole d m0 fullShare (I.x d) ∗ whole d m1 fullShare (I.wq d) ∗ whole d m2 fullShare (I.wk d) ∗ whole d m3 fullShare (I.wv d)
        ∗ whole d m4 fullShare (I.wo d) ∗ whole d m5 fullShare Y)
      ⊢ iprop(((owing d [] ∗ quiet d ∗ bufs d
          ∗ whole d m0 fullShare (I.x d) ∗ whole d m1 fullShare (I.wq d) ∗ whole d m2 fullShare (I.wk d) ∗ whole d m3 fullShare (I.wv d)
          ∗ whole d m4 fullShare (I.wo d) ∗ whole d m5 fullShare (I.res d)) -∗ Q ⟨⟩) -∗ Wp d (body m0 m1 m2 m3 m4 m5) Q) := by
  rw [show body (F := F) m0 m1 m2 m3 m4 m5 = body m0 m1 m2 m3 m4 m5 >>= pure from (bind_pure _).symm, dues_eq]
  unfold body talk bufs credStart
  simp only [Prog.bind_assoc, Prog.lift, Prog.bind_op, Prog.bind_ret, wp_deviceId]
  iintro ⟨#HR, #Hlev, HO, ⟨Hbar, Hfin, Hr₀, Hr₁, Hr₂, ⟨Hca₀, Hca₁, Hap₀⟩, ⟨Hcb₀, Hcb₁, Hap₁⟩⟩, ⟨⟨%XQ, Hq⟩, ⟨%XA, Ha⟩, ⟨%XL, Hl⟩, Hf₀₀, Hf₀₁, Hf₁₀, Hf₁₁⟩, H0, H1, H2, H3, H4, H5⟩ HK
  iapply (wp_meet I.blk K d due₁ above_meet) $$ [HO Hf₀₁ Hf₁₁ Hbar]
  · isplitr; · iexact HR
    isplitr; · iexact Hlev
    isplitl [HO]; · iexact HO
    isplitl [Hf₀₁]; · iexact Hf₀₁
    isplitl [Hf₁₁] <;> iassumption
  iintro ⟨HO, Hn₀, Hn₁, Hvbar⟩
  iapply (wp_loadX d m0) $$ H0
  iintro H0
  iapply (wp_fillKV_slots I d m2 m3) $$ [H2 H3 Hf₀₀ Hf₁₀]
  · isplitl [H2]; · iexact H2
    isplitl [H3]; · iexact H3
    isplitl [Hf₀₀] <;> iassumption
  iintro ⟨H2, H3, Hs⟩
  iapply (wp_sends₀ I K d) $$ [HO Hs Hn₀ Hn₁ Hr₀]
  · isplitr; · iexact HR
    isplitl [HO]; · iexact HO
    isplitl [Hs]; · iexact Hs
    isplitl [Hn₀]; · iexact Hn₀
    isplitl [Hn₁] <;> iassumption
  iintro ⟨HO, Hs, Hr₀⟩
  iapply (show iprop(whole d m1 fullShare (I.wq d) ∗ whole d qM fullShare XQ) ⊢ iprop(((whole d m1 fullShare (I.wq d) ∗ whole d qM fullShare (I.qrys d)) -∗ _) -∗ _) from
    wp_fillQ d (I.x d) m1) $$ [H1 Hq]
  · isplitl [H1] <;> iassumption
  iintro ⟨H1, Hq⟩
  iapply (wp_first_slots I d) $$ [Hq Hs Hl Ha]
  · isplitl [Hq]; · iexact Hq
    isplitl [Hs]; · iexact Hs
    isplitl [Hl] <;> iassumption
  iintro ⟨Hq, Hs, Hp⟩
  iapply (wp_waits₀ I K d) $$ [HO Hs Hr₀]
  · isplitr; · iexact HR
    isplitr; · iexact Hlev
    isplitl [HO]; · iexact HO
    isplitl [Hs] <;> iassumption
  iintro ⟨HO, Hs, Hs', -, -, Hz₀⟩
  iapply (wp_credits₀ I K d) $$ [HO Hs Hca₀ Hcb₀ Hap₀ Hap₁]
  · isplitr; · iexact HR
    isplitr; · iexact Hlev
    isplitl [HO]; · iexact HO
    isplitl [Hs]; · iexact Hs
    isplitl [Hca₀]; · iexact Hca₀
    isplitl [Hcb₀]; · iexact Hcb₀
    isplitl [Hap₀] <;> iassumption
  iintro ⟨HO, ⟨Hn₀, Hap₀, Hrc₀⟩, Hn₁, Hap₁, Hrc₁⟩
  iapply (wp_sends₁ I K d) $$ [HO Hs' Hn₀ Hn₁ Hr₁ Hrc₀ Hrc₁]
  · isplitr; · iexact HR
    isplitl [HO]; · iexact HO
    isplitl [Hs']; · iexact Hs'
    isplitl [Hn₀]; · iexact Hn₀
    isplitl [Hn₁]; · iexact Hn₁
    isplitl [Hr₁]; · iexact Hr₁
    isplitl [Hrc₀] <;> iassumption
  iintro ⟨HO, Hs', Hr₁⟩
  iapply (wp_next_slots I d 1 0) $$ [Hq Hs' Hp]
  · isplitl [Hq]; · iexact Hq
    isplitl [Hs'] <;> iassumption
  iintro ⟨Hq, Hs', Hp⟩
  iapply (wp_waits₁ I K d) $$ [HO Hs' Hr₁]
  · isplitr; · iexact HR
    isplitr; · iexact Hlev
    isplitl [HO]; · iexact HO
    isplitl [Hs'] <;> iassumption
  iintro ⟨HO, Hs', Hs, Hrc₀, Hrc₁, Hz₁⟩
  iapply (wp_credits₁ I K d) $$ [HO Hs' Hca₁ Hcb₁ Hap₀ Hap₁ Hrc₀ Hrc₁]
  · isplitr; · iexact HR
    isplitr; · iexact Hlev
    isplitl [HO]; · iexact HO
    isplitl [Hs']; · iexact Hs'
    isplitl [Hca₁]; · iexact Hca₁
    isplitl [Hcb₁]; · iexact Hcb₁
    isplitl [Hap₀]; · iexact Hap₀
    isplitl [Hap₁]; · iexact Hap₁
    isplitl [Hrc₀] <;> iassumption
  iintro ⟨HO, Hn₀, Hn₁, Hv₀, Hv₁⟩
  iapply (wp_sends₂ I K d) $$ [HO Hs Hn₀ Hn₁ Hr₂]
  · isplitr; · iexact HR
    isplitl [HO]; · iexact HO
    isplitl [Hs]; · iexact Hs
    isplitl [Hn₀]; · iexact Hn₀
    isplitl [Hn₁] <;> iassumption
  iintro ⟨HO, Hs, Hr₂⟩
  iapply (wp_next_slots I d 0 1) $$ [Hq Hs Hp]
  · isplitl [Hq]; · iexact Hq
    isplitl [Hs] <;> iassumption
  iintro ⟨Hq, Hs, Hp⟩
  iapply (wp_waits₂ I K d) $$ [HO Hs Hr₂]
  · isplitr; · iexact HR
    isplitr; · iexact Hlev
    isplitl [HO]; · iexact HO
    isplitl [Hs] <;> iassumption
  iintro ⟨HO, Hs, Hs', -, -, Hz₂⟩
  iapply (wp_next_slots I d 1 2) $$ [Hq Hs' Hp]
  · isplitl [Hq]; · iexact Hq
    isplitl [Hs'] <;> iassumption
  iintro ⟨Hq, Hs', Hp⟩
  iapply (wp_quots d (I.sums d 3)) $$ [Hq Hp]
  · isplitl [Hq] <;> iassumption
  iintro ⟨Hq, Hp⟩
  iapply (wp_finish d m4 m5) $$ [Hq H4 H5]
  · isplitl [Hq]; · iexact Hq
    isplitl [H4] <;> iassumption
  iintro ⟨Hq, H4, H5⟩
  iapply (wp_part I.blk K d) $$ [HO Hfin]
  · isplitr; · iexact HR
    isplitr; · iexact Hlev
    isplitl [HO] <;> iassumption
  iintro ⟨HO, Hvfin⟩
  iapply (show iprop(|={Set.univ}=> Q ⟨⟩) ⊢ Wp d (.ret ⟨⟩) Q from Entails.of_eq (by unfold Wp; rw [wp_ret]))
  imodintro
  iapply HK
  unfold quiet pairs
  icases Hp with ⟨Hl, Ha⟩
  ihave Hs := (slots_free d I.blk 0 2) $$ Hs
  icases Hs with ⟨Hf₀₀, Hf₁₀⟩
  ihave Hs' := (slots_free d I.blk 1 3) $$ Hs'
  icases Hs' with ⟨Hf₀₁, Hf₁₁⟩
  isplitl [HO]; · iexact HO
  isplitl [Hvbar Hvfin Hz₀ Hz₁ Hz₂ Hv₀ Hv₁]
  · isplitl [Hvbar]; · iexact Hvbar
    isplitl [Hvfin]; · iexact Hvfin
    isplitl [Hz₀]; · iexact Hz₀
    isplitl [Hz₁]; · iexact Hz₁
    isplitl [Hz₂]; · iexact Hz₂
    isplitl [Hv₀] <;> iassumption
  isplitl [Hq Ha Hl Hf₀₀ Hf₀₁ Hf₁₀ Hf₁₁]
  · isplitl [Hq]; · iexists _; iexact Hq
    isplitl [Ha]; · iexists _; iexact Ha
    isplitl [Hl]; · iexists _; iexact Hl
    isplitl [Hf₀₀]; · iexact Hf₀₀
    isplitl [Hf₀₁]; · iexact Hf₀₁
    isplitl [Hf₁₀] <;> iassumption
  isplitl [H0]; · iexact H0
  isplitl [H1]; · iexact H1
  isplitl [H2]; · iexact H2
  isplitl [H3]; · iexact H3
  isplitl [H4]; · iexact H4
  iexact H5

end Body

end Cert.Attn

end
-- ==== Proof.Deal.lean ====
/- What the launch deals to a device: tokens, credits and positions make up what it talks with, its counters at zero are
   the launch's, and its scratch buffers are those the body works in. -/
module

public import proofs.«01_k».proof.Proof.Body

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.Pipeline (Dat Cfg Window BodyObligation cellOf)
open Cert.KernelIdeal
open Facts₀ Facts

attribute [local instance] theFacts

variable {F : FTy → Type}

local notation "𝕄" => MT nD τ sig ℕ (Elt F) ℕ UU ℕ

/-! ## Lists of cells and tokens -/

theorem bigSepL_two {A : Type} (i j : A) (l : List A) (Φ : A → sProp 𝕄) : bigSepL (i :: j :: l) Φ = iprop(Φ i ∗ bigSepL (j :: l) Φ) := rfl

/-- The cells and the tokens of the copies of one hop. -/
def cells8 (h : Fin 3) : List Own :=
  [.snd false h 0, .rcv false h 0, .snd true h 0, .rcv true h 0, .snd false h 1, .rcv false h 1, .snd true h 1, .rcv true h 1]
def toks8 (h : Fin 3) : List Tk :=
  [.snd false h 0, .rcv false h 0, .snd true h 0, .rcv true h 0, .snd false h 1, .rcv false h 1, .snd true h 1, .rcv true h 1]
/-- All own cells, and all tokens. -/
def cellsAll : List Own := [.fin, .cr 0, .cr 1] ++ cells8 0 ++ cells8 1 ++ cells8 2
def toksAll : List Tk :=
  [.bar false, .bar true, .fin false, .fin true, .cr 0 0, .cr 0 1, .cr 1 0, .cr 1 1] ++ toks8 0 ++ toks8 1 ++ toks8 2

theorem bigSep_own (Φ : Own → sProp 𝕄) : bigSep Finset.univ Φ = bigSepL cellsAll Φ := bigSep_univ_eq_bigSepL cellsAll (by decide) (by decide) Φ
theorem bigSep_tk (Φ : Tk → sProp 𝕄) : bigSep Finset.univ Φ = bigSepL toksAll Φ := bigSep_univ_eq_bigSepL toksAll (by decide) (by decide) Φ
theorem bigSep_kd (Φ : Kd → sProp 𝕄) : bigSep Finset.univ Φ = iprop(Φ (.inl ()) ∗ bigSepL cellsAll fun k => Φ (.inr k)) := by
  rw [BI.bigSep_univ_sum, bigSep_own]
  congr 1
  exact bigSep_univ_eq_bigSepL [()] (by decide) (by decide) _

/-! ## What a device talks with -/

theorem ready_intro (d : Dev nD) (h : Fin 3) :
    iprop((bigSepL (toks8 h) fun t => dutyTok ER (t.cell d) t.rnd t.duty) ∗ (bigSepL (hop h) fun t => cred (tallyAt (kcell (d, t.kd)) t.lvl t.amt))
        ∗ bigSepL (cells8 h) fun k => atPos ER (kcell (d, .inr k)) 0 ∅ 0)
      ⊢ (all4 (ready d h) : sProp 𝕄) := by
  unfold toks8 hop cells8 all4 ready
  simp only [bigSepL_two, bigSepL_singleton]
  iintro ⟨⟨T1, T2, T3, T4, T5, T6, T7, T8⟩, ⟨C1, C2, C3, C4⟩, A1, A2, A3, A4, A5, A6, A7, A8⟩
  isplitl [T1 T2 C1 A1 A2]
  · isplitl [T1]; · iexact T1
    isplitl [T2]; · iexact T2
    isplitl [C1]; · iexact C1
    isplitl [A1]; · iexact A1
    iexact A2
  isplitl [T3 T4 C2 A3 A4]
  · isplitl [T3]; · iexact T3
    isplitl [T4]; · iexact T4
    isplitl [C2]; · iexact C2
    isplitl [A3]; · iexact A3
    iexact A4
  isplitl [T5 T6 C3 A5 A6]
  · isplitl [T5]; · iexact T5
    isplitl [T6]; · iexact T6
    isplitl [C3]; · iexact C3
    isplitl [A5]; · iexact A5
    iexact A6
  isplitl [T7]; · iexact T7
  isplitl [T8]; · iexact T8
  isplitl [C4]; · iexact C4
  isplitl [A7]; · iexact A7
  iexact A8

theorem bar_intro (d : Dev nD) (k : Kd) (i : ℕ) :
    iprop((dutyTok ER (kcell (back 0 d, k)) 0 false ∗ dutyTok ER (kcell (back 1 d, k)) 0 true)
        ∗ (cred (tallyAt (kcell (d, k)) i 1) ∗ cred (tallyAt (kcell (d, k)) i 1)) ∗ atPos ER (kcell (d, k)) 0 ∅ 0)
      ⊢ (barRes d k i : sProp 𝕄) := by
  unfold barRes
  have h : iprop(cred (tallyAt (kcell (d, k)) i 1) ∗ cred (tallyAt (kcell (d, k)) i 1)) ⊢ (cred (tallyAt (kcell (d, k)) i 2) : sProp 𝕄) :=
    (cred_add _ _).2.trans (Entails.of_eq (by rw [tallyAt_add]))
  iintro ⟨⟨T1, T2⟩, C, A⟩
  ihave C := h $$ C
  isplitl [T1]; · iexact T1
  isplitl [T2]; · iexact T2
  isplitl [C] <;> iassumption

/-- The tokens that a device pays with, its credits and its positions. -/
def dealt (d : Dev nD) : sProp 𝕄 :=
  iprop((bigSep Finset.univ fun t : Tk => dutyTok ER (t.cell d) t.rnd t.duty) ∗ Pipeline.launchCred (fun d => owe d dues) d
    ∗ bigSep Finset.univ fun k : Kd => atPos ER (kcell (d, k)) 0 ∅ 0)

theorem talk_intro (d : Dev nD) : (dealt d : sProp 𝕄) ⊢ talk d := by
  unfold dealt talk
  rw [bigSep_tk, bigSep_kd]
  have hc := (launchCred_owe (F := F) d dues).trans (Entails.of_eq (congrArg (fun l => bigSepL l fun t : Tk => (cred (tallyAt (kcell (d, t.kd)) t.lvl t.amt) : sProp 𝕄))
    (show dues = [.bar false, .bar true] ++ hop 0 ++ [.cr 0 0, .cr 1 0] ++ hop 1 ++ [.cr 0 1, .cr 1 1] ++ hop 2 ++ [.fin false, .fin true] from rfl)))
  unfold toksAll cellsAll
  simp only [bigSepL_append, bigSepL_two, bigSepL_singleton] at hc ⊢
  iintro ⟨⟨⟨⟨⟨Tb0, Tb1, Tf0, Tf1, Tc00, Tc01, Tc10, Tc11⟩, T0⟩, T1⟩, T2⟩, HC, Ab, ⟨⟨⟨Af, Ac0, Ac1⟩, A0⟩, A1⟩, A2⟩
  ihave HC := hc $$ HC
  icases HC with ⟨⟨⟨⟨⟨⟨⟨Cb0, Cb1⟩, C0⟩, ⟨Cc00, Cc10⟩⟩, C1⟩, ⟨Cc01, Cc11⟩⟩, C2⟩, ⟨Cf0, Cf1⟩⟩
  isplitl [Tb0 Tb1 Cb0 Cb1 Ab]
  · iapply (bar_intro d (.inl ()) 1)
    isplitl [Tb0 Tb1]
    · isplitl [Tb0]; · iexact Tb0
      iexact Tb1
    isplitl [Cb0 Cb1]
    · isplitl [Cb0]; · iexact Cb0
      iexact Cb1
    iexact Ab
  isplitl [Tf0 Tf1 Cf0 Cf1 Af]
  · iapply (bar_intro d (.inr .fin) 7)
    isplitl [Tf0 Tf1]
    · isplitl [Tf0]; · iexact Tf0
      iexact Tf1
    isplitl [Cf0 Cf1]
    · isplitl [Cf0]; · iexact Cf0
      iexact Cf1
    iexact Af
  isplitl [T0 C0 A0]
  · iapply (ready_intro d 0)
    isplitl [T0]; · iexact T0
    isplitl [C0] <;> iassumption
  isplitl [T1 C1 A1]
  · iapply (ready_intro d 1)
    isplitl [T1]; · iexact T1
    isplitl [C1] <;> iassumption
  isplitl [T2 C2 A2]
  · iapply (ready_intro d 2)
    isplitl [T2]; · iexact T2
    isplitl [C2] <;> iassumption
  unfold credStart
  isplitl [Tc00 Cc00 Tc01 Cc01 Ac0]
  · isplitl [Tc00 Cc00]
    · isplitl [Tc00]; · iexact Tc00
      iexact Cc00
    isplitl [Tc01 Cc01]
    · isplitl [Tc01]; · iexact Tc01
      iexact Cc01
    iexact Ac0
  isplitl [Tc10 Cc10]
  · isplitl [Tc10]; · iexact Tc10
    iexact Cc10
  isplitl [Tc11 Cc11]
  · isplitl [Tc11]; · iexact Tc11
    iexact Cc11
  iexact Ac1

/-! ## The counters -/

theorem shut_exit (d : Dev nD) (h : Fin 3) : (all4 (shut d h) : sProp 𝕄) ⊢ bigSepL (cells8 h) fun k => semVal (kcell (d, .inr k)) 0 := by
  unfold cells8 all4 shut
  simp only [bigSepL_two, bigSepL_singleton]
  iintro ⟨⟨H1, H2⟩, ⟨H3, H4⟩, ⟨H5, H6⟩, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem unscopedSems0_eq (d : Dev nD) : (unscopedSems0 d : sProp 𝕄) = semVal (kcell (d, .inl ())) 0 := by
  unfold unscopedSems0
  rw [bigSep_eq_bigSepL_of_eq [SemLoc.reg barS] (by decide) (by decide)]
  rfl

theorem ownSems0_eq (d : Dev nD) :
    (Pipeline.ownSems0 (Ix := ℕ) (Name := ℕ) (U := UU) (Lvl := ℕ) (Val := Elt F) (τ := τ) ownSem d : sProp 𝕄)
      = bigSep Finset.univ fun k : Own => semVal (kcell (d, .inr k)) 0 := rfl

/-- A device's counters by kinds. -/
theorem sems_eq (d : Dev nD) :
    iprop(Pipeline.ownSems0 (Ix := ℕ) (Name := ℕ) (U := UU) (Lvl := ℕ) (Val := Elt F) (τ := τ) ownSem d ∗ unscopedSems0 d)
      ⊢ (bigSep Finset.univ fun k : Kd => semVal (kcell (d, k)) 0 : sProp 𝕄) := by
  rw [unscopedSems0_eq, ownSems0_eq, bigSep_kd, bigSep_own]
  iintro ⟨H1, H2⟩
  isplitl [H2] <;> iassumption

theorem quiet_exit (d : Dev nD) :
    (quiet d : sProp 𝕄) ⊢ iprop(unscopedSems0 d ∗ Pipeline.ownSems0 (Ix := ℕ) (Name := ℕ) (U := UU) (Lvl := ℕ) (Val := Elt F) (τ := τ) ownSem d) := by
  rw [unscopedSems0_eq, ownSems0_eq, bigSep_own]
  unfold quiet cellsAll
  simp only [bigSepL_append, bigSepL_two, bigSepL_singleton]
  iintro ⟨Hb, Hf, H0, H1, H2, Hc0, Hc1⟩
  ihave H0 := (shut_exit d 0) $$ H0
  ihave H1 := (shut_exit d 1) $$ H1
  ihave H2 := (shut_exit d 2) $$ H2
  isplitl [Hb]; · iexact Hb
  isplitr [H2]
  · isplitr [H1]
    · isplitr [H0]
      · isplitl [Hf]; · iexact Hf
        isplitl [Hc0] <;> iassumption
      · iexact H0
    · iexact H1
  · iexact H2

/-! ## The scratch buffers -/

theorem slots_univ : Finset.univ.map (slotE 0) ∪ Finset.univ.map (slotE 1) = (Finset.univ : Finset S2x1024x512.Idx) := by
  ext i
  simp only [Finset.mem_union, Finset.mem_map, Finset.mem_univ, true_and, iff_true]
  have h : (i 0).val < 2 := (i 0).isLt
  have hi (s : Fin 2) (hs : s.val = (i 0).val) : slotE s (ValueIdx.ix2 ⟨(i 1).val, (i 1).isLt⟩ ⟨(i 2).val, (i 2).isLt⟩) = i :=
    Shape.idx3_ext hs rfl rfl
  rcases Nat.lt_or_ge (i 0).val 1 with h0 | h1
  · exact Or.inl ⟨_, hi 0 (show 0 = _ by omega)⟩
  · exact Or.inr ⟨_, hi 1 (show 1 = _ by omega)⟩
theorem slots_disjoint : Disjoint (Finset.univ.map (slotE 0)) (Finset.univ.map (slotE 1)) := by
  rw [Finset.disjoint_left]
  intro i h0 h1
  obtain ⟨x, -, rfl⟩ := Finset.mem_map.mp h0
  obtain ⟨y, -, h⟩ := Finset.mem_map.mp h1
  exact absurd (congrArg (fun i : S2x1024x512.Idx => (i 0).val) h) (show ¬ (1 : ℕ) = 0 by decide)

section Scratch

variable {φ : EltTy} (m : Memref sig .tc .vmem S2x1024x512 φ)

theorem heldSet_slots : heldSet m (slotE 0) ∪ heldSet m (slotE 1) = m.view.set := by
  unfold heldSet View.set
  rw [← Finset.map_map, ← Finset.map_map, ← Finset.map_union, slots_univ]
theorem heldSet_disjoint : Disjoint (heldSet m (slotE 0)) (heldSet m (slotE 1)) := by
  unfold heldSet
  rw [← Finset.map_map, ← Finset.map_map, Finset.disjoint_map]
  exact slots_disjoint

/-- A buffer of two slots is its slots. -/
theorem slots_split (c : Dev nD) :
    iprop(∃ f : Buf (Elt F) (m.view.loc (c : Thread nD τ)), m.view.loc (c : Thread nD τ) ↦[m.view.set]{fullShare} f)
      ⊢ (iprop((∃ X, held c m (slotE 0) fullShare X) ∗ ∃ X, held c m (slotE 1) fullShare X) : sProp 𝕄) := by
  unfold held
  iintro ⟨%f, H⟩
  ihave H := (Entails.of_eq (congrArg (fun S => (m.view.loc (c : Thread nD τ) ↦[S]{fullShare} f : sProp 𝕄)) (heldSet_slots m).symm)) $$ H
  ihave H := (pointsTo_union (heldSet_disjoint m)).1 $$ H
  icases H with ⟨H0, H1⟩
  isplitl [H0]
  · iexists (fun i => m.view.read (Elt F) f (slotE 0 i)), f
    isplitr
    · ipureintro; exact fun _ => rfl
    · iexact H0
  · iexists (fun i => m.view.read (Elt F) f (slotE 1 i)), f
    isplitr
    · ipureintro; exact fun _ => rfl
    · iexact H1

theorem slots_join (c : Dev nD) :
    (iprop((∃ X, held c m (slotE 0) fullShare X) ∗ ∃ X, held c m (slotE 1) fullShare X) : sProp 𝕄)
      ⊢ iprop(∃ f : Buf (Elt F) (m.view.loc (c : Thread nD τ)), m.view.loc (c : Thread nD τ) ↦[m.view.set]{fullShare} f) := by
  unfold held
  iintro ⟨⟨%X, %f, %hf, H0⟩, ⟨%Y, %g, %hg, H1⟩⟩
  have h := pointsTo_join (Ix := ℕ) (Name := ℕ) (U := UU) (Lvl := ℕ) (ℓ := m.view.loc (c : Thread nD τ)) (q := fullShare) (f := f) (g := g) (heldSet_disjoint m)
  iexists _
  ihave H := h $$ [H0 H1]
  · isplitl [H0] <;> iassumption
  iapply (Entails.of_eq (congrArg (fun S => (m.view.loc (c : Thread nD τ) ↦[S]{fullShare} _ : sProp 𝕄)) (heldSet_slots m)))
  iexact H

end Scratch

/-- Owning a whole buffer, whatever it holds. -/
theorem whole_some {s : Shape} {φ : EltTy} (c : Dev nD) (m : Memref sig .tc .vmem s φ) :
    (iprop(∃ X, whole c m fullShare X) : sProp 𝕄)
      ⊣⊢ iprop(∃ f : Buf (Elt F) (m.view.loc (c : Thread nD τ)), m.view.loc (c : Thread nD τ) ↦[m.view.set]{fullShare} f) := by
  simp only [whole_eq]
  unfold owns
  constructor
  · iintro ⟨%X, %f, -, H⟩
    iexists f; iexact H
  · iintro ⟨%f, H⟩
    iexists (m.view.read (Elt F) f), f
    isplitr
    · ipureintro; rfl
    · iexact H

/-- The two slots of a buffer of keys or values are a scratch buffer. -/
theorem slots_buf (c : Dev nD) {φ : EltTy} (m : Memref sig .tc .vmem S2x1024x512 φ) :
    iprop(∃ f : Buf (Elt F) (m.view.loc (c : Thread nD τ)), m.view.loc (c : Thread nD τ) ↦[m.view.set]{fullShare} f)
      ⊣⊢ (iprop((∃ X, held c m (slotE 0) fullShare X) ∗ ∃ X, held c m (slotE 1) fullShare X) : sProp 𝕄) :=
  ⟨slots_split m c, slots_join m c⟩

/-- The scratch buffer behind a memref that is a whole one. -/
theorem buf_whole (c : Dev nD) (b : Ref sig .tc) :
    iprop(∃ f : Buf (Elt F) ((c : Thread nD τ).loc b), ((c : Thread nD τ).loc b) ↦{fullShare} f)
      = (iprop(∃ f : Buf (Elt F) ((View.whole b).loc (c : Thread nD τ)), (View.whole b).loc (c : Thread nD τ) ↦[(View.whole b).set]{fullShare} f) : sProp 𝕄) := by
  rw [View.set_whole]

/-- The kernel's scratch buffers. -/
def scratch (c : Dev nD) : sProp 𝕄 := Pipeline.scopedRest (Ix := ℕ) (Name := ℕ) (U := UU) (Lvl := ℕ) (Val := Elt F) spec0 c

theorem scratch_eq (c : Dev nD) : (scratch (F := F) c : sProp 𝕄)
    = iprop((∃ f : Buf (Elt F) (qM.view.loc (c : Thread nD τ)), qM.view.loc (c : Thread nD τ) ↦[qM.view.set]{fullShare} f)
      ∗ (∃ f : Buf (Elt F) ((kM 0).view.loc (c : Thread nD τ)), (kM 0).view.loc (c : Thread nD τ) ↦[(kM 0).view.set]{fullShare} f)
      ∗ (∃ f : Buf (Elt F) ((kM 1).view.loc (c : Thread nD τ)), (kM 1).view.loc (c : Thread nD τ) ↦[(kM 1).view.set]{fullShare} f)
      ∗ (∃ f : Buf (Elt F) ((vM 0).view.loc (c : Thread nD τ)), (vM 0).view.loc (c : Thread nD τ) ↦[(vM 0).view.set]{fullShare} f)
      ∗ (∃ f : Buf (Elt F) ((vM 1).view.loc (c : Thread nD τ)), (vM 1).view.loc (c : Thread nD τ) ↦[(vM 1).view.set]{fullShare} f)
      ∗ (∃ f : Buf (Elt F) (accM.view.loc (c : Thread nD τ)), accM.view.loc (c : Thread nD τ) ↦[accM.view.set]{fullShare} f)
      ∗ ∃ f : Buf (Elt F) (lM.view.loc (c : Thread nD τ)), lM.view.loc (c : Thread nD τ) ↦[lM.view.set]{fullShare} f) := by
  unfold scratch
  rw [Gen.scopedRest0_eq, buf_whole, buf_whole, buf_whole, buf_whole, buf_whole, buf_whole, buf_whole]
  rfl

theorem bufs_intro (c : Dev nD) : (scratch (F := F) c : sProp 𝕄) ⊢ bufs c := by
  rw [scratch_eq]
  unfold bufs free2 free
  iintro ⟨H0, H1, H2, H3, H4, H5, H6⟩
  ihave H0 := (whole_some c qM).2 $$ H0
  ihave H5 := (whole_some c accM).2 $$ H5
  ihave H6 := (whole_some c lM).2 $$ H6
  ihave H1 := (slots_buf c (kM 0)).1 $$ H1
  icases H1 with ⟨A0, A1⟩
  ihave H2 := (slots_buf c (kM 1)).1 $$ H2
  icases H2 with ⟨B0, B1⟩
  ihave H3 := (slots_buf c (vM 0)).1 $$ H3
  icases H3 with ⟨C0, C1⟩
  ihave H4 := (slots_buf c (vM 1)).1 $$ H4
  icases H4 with ⟨D0, D1⟩
  isplitl [H0]; · iexact H0
  isplitl [H5]; · iexact H5
  isplitl [H6]; · iexact H6
  isplitl [A0 C0]
  · isplitl [A0]; · iexact A0
    iexact C0
  isplitl [A1 C1]
  · isplitl [A1]; · iexact A1
    iexact C1
  isplitl [B0 D0]
  · isplitl [B0]; · iexact B0
    iexact D0
  isplitl [B1]; · iexact B1
  iexact D1

theorem bufs_exit (c : Dev nD) : (bufs c : sProp 𝕄) ⊢ scratch (F := F) c := by
  rw [scratch_eq]
  unfold bufs free2 free
  iintro ⟨H0, H5, H6, ⟨A0, C0⟩, ⟨A1, C1⟩, ⟨B0, D0⟩, ⟨B1, D1⟩⟩
  ihave H0 := (whole_some c qM).1 $$ H0
  ihave H5 := (whole_some c accM).1 $$ H5
  ihave H6 := (whole_some c lM).1 $$ H6
  ihave H1 := (slots_buf c (kM 0)).2 $$ [A0 A1]
  · isplitl [A0]; · iexact A0
    iexact A1
  ihave H2 := (slots_buf c (kM 1)).2 $$ [B0 B1]
  · isplitl [B0]; · iexact B0
    iexact B1
  ihave H3 := (slots_buf c (vM 0)).2 $$ [C0 C1]
  · isplitl [C0]; · iexact C0
    iexact C1
  ihave H4 := (slots_buf c (vM 1)).2 $$ [D0 D1]
  · isplitl [D0]; · iexact D0
    iexact D1
  isplitl [H0]; · iexact H0
  isplitl [H1]; · iexact H1
  isplitl [H2]; · iexact H2
  isplitl [H3]; · iexact H3
  isplitl [H4]; · iexact H4
  isplitl [H5]; · iexact H5
  iexact H6

end Cert.Attn

end
-- ==== Proof.Launch.lean ====
/- The launch: the devices' inputs as memory holds them, the ghost state dealt to the devices, the body's obligation, and
   the run of the whole program from any memory with all counters at zero. -/
module

public import proofs.«01_k».proof.Proof.Deal
public import Idealize.ShloMosaic.Lib.Pipeline.FrameBody
public import Idealize.ShloMosaic.Lib.Pipeline.CollectiveSegs

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.Pipeline (Dat Cfg Window BodyObligation cellOf)
open Cert.KernelIdeal
open Facts₀ Facts

attribute [local instance] theFacts

variable {F : FTy → Type}

local notation "𝕄" => MT nD τ sig ℕ (Elt F) ℕ UU ℕ

open Cert.KernelIdeal.Gen

variable [FloatOps F] [Named F] (m : (ℓ : Loc nD τ sig) → Buf (Elt F) ℓ) (ρ : Dev nD → PrngReg)

/-- The memory at the start: any contents, every counter zero. -/
def s₀ : MemSt nD τ sig (Elt F) := ⟨m, fun _ => 0, ρ⟩

/-- What the windows of the inputs read. -/
def inp : Ins F where
  x d := (win0_0.blk (0 : Fin 1)).view.read (Elt F) (m ((d : Thread nD τ).loc main_arg0))
  wq d := (win0_1.blk (0 : Fin 1)).view.read (Elt F) (m ((d : Thread nD τ).loc main_arg1))
  wk d := (win0_2.blk (0 : Fin 1)).view.read (Elt F) (m ((d : Thread nD τ).loc main_arg2))
  wv d := (win0_3.blk (0 : Fin 1)).view.read (Elt F) (m ((d : Thread nD τ).loc main_arg3))
  wo d := (win0_4.blk (0 : Fin 1)).view.read (Elt F) (m ((d : Thread nD τ).loc main_arg4))

/-! ## The ghost state -/

def ringCells : Finset (GSem nD τ sig) := Finset.univ.map ⟨kcell, kcell_injective⟩

/-- A token of a device's own cell. -/
def tokOf (x : Dev nD × Tk) : GSem nD τ sig × ℕ × Bool := (kcell (x.1, x.2.kd), x.2.rnd, x.2.duty)
theorem tokOf_injective : Function.Injective tokOf := by
  rintro ⟨c, t⟩ ⟨c', t'⟩ h
  have h1 := kcell_injective (congrArg Prod.fst h)
  have h2 : (t.rnd, t.duty) = (t'.rnd, t'.duty) := congrArg Prod.snd h
  have hc : c = c' := congrArg Prod.fst h1
  have hk : t.kd = t'.kd := congrArg Prod.snd h1
  have ht : t = t' := Tk.key_injective (by
    show (t.kd, t.rnd, t.duty) = (t'.kd, t'.rnd, t'.duty)
    rw [hk, h2])
  rw [hc, ht]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of a device's own cells. -/
def minted (c : Dev nD) : sProp 𝕄 := bigSep Finset.univ fun t : Tk => dutyTok ER (kcell (c, t.kd)) t.rnd t.duty
/-- The tokens that it pays with. -/
def purse (c : Dev nD) : sProp 𝕄 := bigSep Finset.univ fun t : Tk => dutyTok ER (t.cell c) t.rnd t.duty
/-- Its positions, and that its cells have begun. -/
def begun (c : Dev nD) : sProp 𝕄 := bigSep Finset.univ fun k : Kd => iprop(atPos ER (kcell (c, k)) 0 ∅ 0 ∗ reached ER (kcell (c, k)) 0)

abbrev Rm : Rounds.Schedule (GSem nD τ sig) Bool 𝕄 := Rd (inp m).blk

/-- What the launch gives a device. -/
def G (c : Dev nD) : sProp 𝕄 := iprop((bigSep Finset.univ fun k : Kd => roundState ER (Rm m) (kcell (c, k)) 0) ∗ begun c ∗ minted c)
/-- What it has once the cells' records are shared. -/
def G' (c : Dev nD) : sProp 𝕄 := iprop(∃ K, records (inp m).blk K ∗ purse c ∗ bigSep Finset.univ fun k : Kd => atPos ER (kcell (c, k)) 0 ∅ 0)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd => Φ (kcell (c, k)) := by
    unfold ringCells
    rw [bigSep_map, bigSep_univ_prod]
    rfl
  have hT : bigSep ringToks (fun x => (dutyTok ER x.1 x.2.1 x.2.2 : sProp 𝕄)) = bigSep Finset.univ fun c : Dev nD => minted c := by
    unfold ringToks
    rw [bigSep_map, bigSep_univ_prod]
    rfl
  iintro HX
  imod (Rounds.fund ER (Rm m) ringCells ringToks) $$ HX with ⟨Hst, Hr, Hat, Htok⟩
  imodintro
  ihave Hst := (Entails.of_eq (hX fun g => roundState ER (Rm m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G begun
  simp only [bigSep_sep']
  isplitl [Hst]; · iexact Hst
  isplitl [Hat Hr]
  · isplitl [Hat] <;> iassumption
  iexact Htok

/-- The cells' records of a device. -/
def opened (c : Dev nD) : sProp 𝕄 := bigSep Finset.univ fun k : Kd => iprop(∃ κ : ℕ, cellInv ER (Rm m) κ (kcell (c, k)))

theorem core_alloc (c : Dev nD) :
    iprop(Pipeline.ownSems0 (Ix := ℕ) (Name := ℕ) (U := UU) (Lvl := ℕ) (Val := Elt F) (τ := τ) ownSem c ∗ unscopedSems0 c ∗ G m c)
      ⊢ |={Set.univ}=> iprop(opened m c ∗ begun c ∗ minted c) := by
  have h : iprop((bigSep Finset.univ fun k : Kd => semVal (kcell (c, k)) 0) ∗ bigSep Finset.univ fun k : Kd => roundState ER (Rm m) (kcell (c, k)) 0)
      ⊢ (|={Set.univ}=> opened m c : sProp 𝕄) := by
    unfold opened
    rw [← bigSep_sep']
    exact (bigSep_mono fun k _ => (Rounds.body_intro ER (Rm m) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-- The tokens go to the devices that pay them. -/
theorem toks_around : (bigSep Finset.univ fun c : Dev nD => minted c) = (bigSep Finset.univ fun c : Dev nD => purse c : sProp 𝕄) := by
  unfold minted purse
  rw [Idealize.SL.BI.bigSep_univ_comm, Idealize.SL.BI.bigSep_univ_comm (fun c : Dev nD => fun t : Tk => (dutyTok ER (t.cell c) t.rnd t.duty : sProp 𝕄))]
  refine bigSep_congr fun t _ => ?_
  exact bigSep_univ_equiv ⟨t.tgt, t.payer, t.payer_tgt, t.tgt_payer⟩ (fun c : Dev nD => (dutyTok ER (kcell (c, t.kd)) t.rnd t.duty : sProp 𝕄))

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop(opened m c ∗ begun c ∗ minted c) : sProp 𝕄) ⊢ bigSep Finset.univ (G' m) := by
  have hI : (bigSep Finset.univ fun c : Dev nD => opened m c)
      ⊢ (iprop(∃ K : Dev nD × Kd → ℕ, bigSep Finset.univ fun ck : Dev nD × Kd => cellInv ER (Rm m) (K ck) (kcell ck)) : sProp 𝕄) := by
    unfold opened
    rw [← bigSep_univ_prod (fun ck : Dev nD × Kd => iprop(∃ κ : ℕ, cellInv ER (Rm m) κ (kcell ck)))]
    exact BI.bigSep_exists_pi Finset.univ (fun (ck : Dev nD × Kd) (κ : ℕ) => (cellInv ER (Rm m) κ (kcell ck) : sProp 𝕄))
  have hB : (bigSep Finset.univ fun c : Dev nD => begun c)
      = (iprop((bigSep Finset.univ fun c : Dev nD => bigSep Finset.univ fun k : Kd => atPos ER (kcell (c, k)) 0 ∅ 0)
        ∗ bigSep Finset.univ fun ck : Dev nD × Kd => reached ER (kcell ck) 0) : sProp 𝕄) := by
    rw [bigSep_univ_prod, ← bigSep_sep']
    exact bigSep_congr fun c _ => bigSep_sep' _ _ _
  have hG (K : Dev nD × Kd → ℕ) : iprop(records (inp m).blk K ∗ bigSep Finset.univ fun c : Dev nD => iprop(purse c ∗ bigSep Finset.univ fun k : Kd => atPos ER (kcell (c, k)) 0 ∅ 0))
      ⊢ (bigSep Finset.univ (G' m) : sProp 𝕄) := bigSep_with fun c _ => by
    unfold G'
    iintro ⟨HR, H⟩
    iexists K
    isplitl [HR] <;> iassumption
  rw [bigSep_sep', bigSep_sep']
  iintro ⟨HI, HB, HT⟩
  ihave HK := hI $$ HI
  icases HK with ⟨%K, HI⟩
  ihave HB := (Entails.of_eq hB) $$ HB
  icases HB with ⟨Hat, HR⟩
  ihave HT := (Entails.of_eq toks_around) $$ HT
  iapply (hG K)
  isplitl [HI HR]
  · unfold records
    isplitl [HI] <;> iassumption
  · iapply (Entails.of_eq (bigSep_sep' Finset.univ (fun c : Dev nD => (purse c : sProp 𝕄)) (fun c => bigSep Finset.univ fun k : Kd => atPos ER (kcell (c, k)) 0 ∅ 0)).symm)
    isplitl [HT] <;> iassumption

theorem glob : (bigSep Finset.univ fun c => iprop(Pipeline.ownSems0 (Ix := ℕ) (Name := ℕ) (U := UU) (Lvl := ℕ) (Val := Elt F) (τ := τ) ownSem c
      ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The schedule of the one pipeline -/

/-- What a device starts with. -/
def start (c : Dev nD) : sProp 𝕄 := iprop((∃ K, records (inp m).blk K) ∗ levAts (L 8) lv ∗ dealt c)

def Φ₀ (c : Dev nD) : sProp 𝕄 := iprop(start m c ∗ scratch (F := F) c)
def Φ₁ (c : Dev nD) : sProp 𝕄 := iprop(quiet c ∗ scratch (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).wk c
    | ⟨3, _⟩ => (inp m).wv c
    | ⟨4, _⟩ => (inp m).wo c
    | ⟨5, _⟩ => (inp m).res c
  Φ t := match t with
    | ⟨0, _⟩ => Φ₀ m c
    | ⟨_ + 1, _⟩ => Φ₁ c
  q _ := fullShare
  owed t := match t with
    | ⟨0, _⟩ => owe c dues
    | ⟨_ + 1, _⟩ => 0

theorem share_eq (c : Dev nD) (w : Fin cfg0.W) : (dats m ρ 0 c).share w = fullShare := by unfold Dat.share; split <;> rfl

theorem ownSemFacts : Pipeline.OwnSemFacts cfg0.spec ownSem := by decide

theorem fetch_all : ∀ (w : Fin 6) (t : Fin cfg0.N), w.val < 5 → (cfg0.win w).fetch t = true := by decide

/-- The kernel at the staging buffers is the body. -/
theorem defs_tc : defs₀ (F := F) .tc cfg0.body (cfg0.bodyArgs t0_0 (cfg0.slots t0_0))
    = body (Memref.whole cc0_stg0_0) (Memref.whole cc0_stg1_0) (Memref.whole cc0_stg2_0) (Memref.whole cc0_stg3_0) (Memref.whole cc0_stg4_0) (Memref.whole cc0_stg5_0) :=
  body_eq (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)

/-- A window's staging buffer. -/
def stg (c : Dev nD) (t : Fin cfg0.N) (w : Fin 6) (X : (cfg0.win w).block.Idx → Elt F (cfg0.win w).elt) : sProp 𝕄 :=
  owns (c : Thread nD τ) ((cfg0.win w).stage (cfg0.slots t w)) fullShare X

def bodyPre (c : Dev nD) (t : Fin cfg0.N) : sProp 𝕄 :=
  iprop((dats m ρ 0 c).Φ t.castSucc ∗ (dats m ρ 0 c).owesAt 0 t.castSucc
    ∗ (∃ d, stg c t 0 ((dats m ρ 0 c).before 0 t d)) ∗ (∃ d, stg c t 1 ((dats m ρ 0 c).before 1 t d))
    ∗ (∃ d, stg c t 2 ((dats m ρ 0 c).before 2 t d)) ∗ (∃ d, stg c t 3 ((dats m ρ 0 c).before 3 t d))
    ∗ (∃ d, stg c t 4 ((dats m ρ 0 c).before 4 t d)) ∗ ∃ d, stg c t 5 ((dats m ρ 0 c).before 5 t d))
def bodyPost (c : Dev nD) (t : Fin cfg0.N) : sProp 𝕄 :=
  iprop((dats m ρ 0 c).Φ t.succ ∗ (dats m ρ 0 c).owesAt 0 t.succ
    ∗ stg c t 0 ((inp m).x c) ∗ stg c t 1 ((inp m).wq c) ∗ stg c t 2 ((inp m).wk c) ∗ stg c t 3 ((inp m).wv c)
    ∗ stg c t 4 ((inp m).wo c) ∗ stg c t 5 ((inp m).res c))

/-- What the body finds staged. -/
theorem before_in (c : Dev nD) (w : Fin 6) (hw : w.val < 5) (d : (cfg0.win w).block.Idx → Elt F (cfg0.win w).elt) :
    (dats m ρ 0 c).before w t0_0 d = (dats m ρ 0 c).after w t0_0 := by
  unfold Dat.before
  rw [if_pos (fetch_all w t0_0 hw)]
  match w, hw with
  | ⟨0, _⟩, _ => rfl
  | ⟨1, _⟩, _ => rfl
  | ⟨2, _⟩, _ => rfl
  | ⟨3, _⟩, _ => rfl
  | ⟨4, _⟩, _ => rfl

theorem stg_0 (c : Dev nD) (X : (cfg0.win 0).block.Idx → Elt F (cfg0.win 0).elt) :
    stg c t0_0 0 X = (whole c (Memref.whole cc0_stg0_0) fullShare X : sProp 𝕄) := by
  rw [whole_eq]
  rfl
theorem stg_1 (c : Dev nD) (X : (cfg0.win 1).block.Idx → Elt F (cfg0.win 1).elt) :
    stg c t0_0 1 X = (whole c (Memref.whole cc0_stg1_0) fullShare X : sProp 𝕄) := by
  rw [whole_eq]
  rfl
theorem stg_2 (c : Dev nD) (X : (cfg0.win 2).block.Idx → Elt F (cfg0.win 2).elt) :
    stg c t0_0 2 X = (whole c (Memref.whole cc0_stg2_0) fullShare X : sProp 𝕄) := by
  rw [whole_eq]
  rfl
theorem stg_3 (c : Dev nD) (X : (cfg0.win 3).block.Idx → Elt F (cfg0.win 3).elt) :
    stg c t0_0 3 X = (whole c (Memref.whole cc0_stg3_0) fullShare X : sProp 𝕄) := by
  rw [whole_eq]
  rfl
theorem stg_4 (c : Dev nD) (X : (cfg0.win 4).block.Idx → Elt F (cfg0.win 4).elt) :
    stg c t0_0 4 X = (whole c (Memref.whole cc0_stg4_0) fullShare X : sProp 𝕄) := by
  rw [whole_eq]
  rfl
theorem stg_5 (c : Dev nD) (X : (cfg0.win 5).block.Idx → Elt F (cfg0.win 5).elt) :
    stg c t0_0 5 X = (whole c (Memref.whole cc0_stg5_0) fullShare X : sProp 𝕄) := by
  rw [whole_eq]
  rfl

theorem post_intro (c : Dev nD) :
    iprop(owing c [] ∗ quiet c ∗ bufs c ∗ whole c (Memref.whole cc0_stg0_0) fullShare ((inp m).x c) ∗ whole c (Memref.whole cc0_stg1_0) fullShare ((inp m).wq c) ∗ whole c (Memref.whole cc0_stg2_0) fullShare ((inp m).wk c)
        ∗ whole c (Memref.whole cc0_stg3_0) fullShare ((inp m).wv c) ∗ whole c (Memref.whole cc0_stg4_0) fullShare ((inp m).wo c) ∗ whole c (Memref.whole cc0_stg5_0) fullShare ((inp m).res c))
      ⊢ bodyPost m ρ c t0_0 := by
  unfold bodyPost
  rw [stg_0, stg_1, stg_2, stg_3, stg_4, stg_5]
  rw [show (dats m ρ 0 c).Φ t0_0.succ = Φ₁ c from rfl]
  unfold Φ₁ Dat.owesAt Pipeline.owesWithin
  rw [show (dats m ρ 0 c).owed t0_0.succ = owe c [] from rfl]
  iintro ⟨HO, Hq, Hs, H0, H1, H2, H3, H4, H5⟩
  ihave Hs := (bufs_exit c) $$ Hs
  isplitl [Hq Hs]
  · isplitl [Hq] <;> iassumption
  isplitl [HO]
  · unfold owing
    icases HO with ⟨%W', HO⟩
    iexists W'
    isplitr
    · ipureintro; exact fun _ _ => Or.inl trivial
    · iexact HO
  isplitl [H0]; · iexact H0
  isplitl [H1]; · iexact H1
  isplitl [H2]; · iexact H2
  isplitl [H3]; · iexact H3
  isplitl [H4]; · iexact H4
  iexact H5

theorem sound (c : Dev nD) :
    bodyPre m ρ c t0_0 ⊢ Wp c (body (F := F) (Memref.whole cc0_stg0_0) (Memref.whole cc0_stg1_0) (Memref.whole cc0_stg2_0) (Memref.whole cc0_stg3_0) (Memref.whole cc0_stg4_0) (Memref.whole cc0_stg5_0)) (fun _ => bodyPost m ρ c t0_0) := by
  unfold bodyPre
  rw [show (dats m ρ 0 c).Φ t0_0.castSucc = Φ₀ m c from rfl]
  unfold Φ₀ start Dat.owesAt Pipeline.owesWithin
  rw [show (dats m ρ 0 c).owed t0_0.castSucc = owe c dues from rfl]
  iintro ⟨⟨⟨⟨%K, HR⟩, Hlev, Hd⟩, Hs⟩, ⟨%W, -, HO⟩, ⟨%d0, H0⟩, ⟨%d1, H1⟩, ⟨%d2, H2⟩, ⟨%d3, H3⟩, ⟨%d4, H4⟩, ⟨%d5, H5⟩⟩
  ihave Hd := (talk_intro c) $$ Hd
  ihave Hs := (bufs_intro c) $$ Hs
  ihave H0 := (show stg c t0_0 0 ((dats m ρ 0 c).before 0 t0_0 d0) ⊢ whole c (Memref.whole cc0_stg0_0) fullShare ((inp m).x c) from
    Entails.of_eq ((congrArg (fun X => stg c t0_0 0 X) (before_in m ρ c 0 (by decide) d0)).trans (stg_0 c _))) $$ H0
  ihave H1 := (show stg c t0_0 1 ((dats m ρ 0 c).before 1 t0_0 d1) ⊢ whole c (Memref.whole cc0_stg1_0) fullShare ((inp m).wq c) from
    Entails.of_eq ((congrArg (fun X => stg c t0_0 1 X) (before_in m ρ c 1 (by decide) d1)).trans (stg_1 c _))) $$ H1
  ihave H2 := (show stg c t0_0 2 ((dats m ρ 0 c).before 2 t0_0 d2) ⊢ whole c (Memref.whole cc0_stg2_0) fullShare ((inp m).wk c) from
    Entails.of_eq ((congrArg (fun X => stg c t0_0 2 X) (before_in m ρ c 2 (by decide) d2)).trans (stg_2 c _))) $$ H2
  ihave H3 := (show stg c t0_0 3 ((dats m ρ 0 c).before 3 t0_0 d3) ⊢ whole c (Memref.whole cc0_stg3_0) fullShare ((inp m).wv c) from
    Entails.of_eq ((congrArg (fun X => stg c t0_0 3 X) (before_in m ρ c 3 (by decide) d3)).trans (stg_3 c _))) $$ H3
  ihave H4 := (show stg c t0_0 4 ((dats m ρ 0 c).before 4 t0_0 d4) ⊢ whole c (Memref.whole cc0_stg4_0) fullShare ((inp m).wo c) from
    Entails.of_eq ((congrArg (fun X => stg c t0_0 4 X) (before_in m ρ c 4 (by decide) d4)).trans (stg_4 c _))) $$ H4
  ihave H5 := (Entails.of_eq (stg_5 c _)) $$ H5
  have hw := wp_body (inp m) K c (Memref.whole cc0_stg0_0) (Memref.whole cc0_stg1_0) (Memref.whole cc0_stg2_0) (Memref.whole cc0_stg3_0) (Memref.whole cc0_stg4_0) (Memref.whole cc0_stg5_0)
    (Y := (dats m ρ 0 c).before 5 t0_0 d5) (Q := fun _ => bodyPost m ρ c t0_0)
  iapply hw $$ [HR Hlev Hd Hs HO H0 H1 H2 H3 H4 H5]
  · isplitl [HR]; · iexact HR
    isplitl [Hlev]; · iexact Hlev
    isplitl [HO]
    · unfold owing
      iexists W
      iexact HO
    isplitl [Hd]; · iexact Hd
    isplitl [Hs]; · iexact Hs
    isplitl [H0]; · iexact H0
    isplitl [H1]; · iexact H1
    isplitl [H2]; · iexact H2
    isplitl [H3]; · iexact H3
    isplitl [H4]; · iexact H4
    iexact H5
  iintro H
  iapply (post_intro m ρ c)
  iexact H

set_option maxRecDepth 8000 in
theorem body_obligation (c : Dev nD) : BodyObligation (dats (F := F) m ρ 0 c) (defs₀ (F := F)) 𝒱₀ 0 Set.univ := fun t => by
  rw [fin_N0 t, defs_tc]
  rw [bigSep_W0, bigSep_W0]
  have h := sound m ρ c
  generalize body (F := F) (Memref.whole cc0_stg0_0) (Memref.whole cc0_stg1_0) (Memref.whole cc0_stg2_0) (Memref.whole cc0_stg3_0)
    (Memref.whole cc0_stg4_0) (Memref.whole cc0_stg5_0) = p at h ⊢
  exact h

/-! ## The run -/

theorem start_intro (c : Dev nD) :
    iprop(Pipeline.unscopedRestP Pipeline.Prefetch.none cfg0.spec c (fun b => m ((c : Thread nD τ).loc b)) ∗ levAts (L 8) lv
        ∗ Pipeline.launchCred (fun d => owe d dues) c ∗ prngReg c (ρ c) ∗ G' m c)
      ⊢ |={Set.univ}=> (iprop(start m c ∗ emp) : sProp 𝕄) := by
  unfold G' purse start dealt
  iintro ⟨-, Hlev, Hcr, -, ⟨%K, HR, Ht, Ha⟩⟩
  imodintro
  isplitl
  · isplitl [HR]
    · iexists K; iexact HR
    isplitl [Hlev]; · iexact Hlev
    isplitl [Ht]; · iexact Ht
    isplitl [Hcr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ c from rfl]
  unfold Φ₁ scratch
  iintro ⟨Hq, Hr⟩
  ihave Hq := (quiet_exit c) $$ Hq
  icases Hq with ⟨Hu, Ho⟩
  isplitl [Hu]; · iexact Hu
  isplitl [Ho]; · iexact Ho
  iexact Hr

/-- A wait for a staging copy is below all that a device owes. -/
theorem stage_waits (c : Dev nD) (s : SemLoc sig) (t : Fin (cfg0.N + 1)) :
    (levAts (L 8) lv : sProp 𝕄) ⊢ MayWait (c : Thread nD τ) s 0 ((dats m ρ 0 c).owed t) := by
  rcases t with ⟨_ | _, ht⟩
  · exact owe_mayWait c s dues 0 (by decide) (by decide)
  · exact owe_mayWait c s [] 0 (by decide) (by decide)

theorem all_waits (c : Dev nD) : (levAts (L 8) lv : sProp 𝕄) ⊢ Pipeline.cellsWaits cfgs (dats m ρ) 0 0 c :=
  Pipeline.cellsWaits_intro cfgs (dats m ρ) 0 0 c fun w s t => stage_waits m ρ c _ t

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run ends, each array then as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := fun d => owe d dues) (howed₀ := fun _ => rfl) (howedN := fun _ => rfl)
    (L := L 8) (lv := lv) (hL := SiteBlocks.hL 8) (hwaits := all_waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays hold what they held. -/
theorem finalA_in (c : Dev nD) (w : Fin 6) (hw : (cfg0.win w).isOut = false) : finalA m ρ c w = (s₀ m ρ).mem ((cfg0.win w).arr.view.loc (c : Thread nD τ)) :=
  (dats (F := F) m ρ 0 c).arrAt_in w hw _

end Cert.Attn

end
-- ==== Proof.Frames.lean ====
/- What the run of the kernel leaves in memory, and the claims that follow from it alone: the frames, and that the kernel
   printed with its constant named is the kernel. -/
module

public import proofs.«01_k».proof.Defs
public import proofs.«01_k».proof.Proof.Launch
public import proofs.«01_k».proof.Proof.Gen.Kernel
public import proofs.«01_k».proof.Proof.Gen.Pre_finite_KernelIdeal
public import proofs.«01_k».proof.Proof.Gen.Pre_finite_ReferenceIdeal
public import proofs.«01_k».proof.Proof.Gen.ReferenceIdeal
public import proofs.«01_k».proof.Proof.Gen.ReferenceIdeal.Run

@[expose] public section

noncomputable section

namespace Cert.Attn

open Idealize.ShloMosaic Idealize.ShloMosaic.TcCoe
open Idealize.SL Idealize.SL.Sem
open Cert.KernelIdeal
open Facts₀ Facts
open Cert.KernelIdeal.Gen

attribute [local instance] theFacts

section
variable {F : FTy → Type} [FloatOps F] [Named F] (m : (ℓ : Loc nD τ sig) → Buf (Elt F) ℓ) (ρ : Dev nD → PrngReg)

/-- Every run ends with the arguments as they were, the result array as the window's copy leaves it, and every counter at zero. -/
theorem run_args : θ_run defs (onTc (τ := τ) (main (F := F))) ⟨m, fun _ => 0, ρ⟩ (fun r => (∀ c : Dev nD,
      r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨h.1 c (5 : Fin 6),
    (h.1 c (0 : Fin 6)).trans (finalA_in m ρ c 0 rfl), (h.1 c (1 : Fin 6)).trans (finalA_in m ρ c 1 rfl),
    (h.1 c (2 : Fin 6)).trans (finalA_in m ρ c 2 rfl), (h.1 c (3 : Fin 6)).trans (finalA_in m ρ c 3 rfl),
    (h.1 c (4 : Fin 6)).trans (finalA_in m ρ c 4 rfl)⟩, h.2⟩) (run_main m ρ)

end

/-- Over float words a named constant is read as its word. -/
@[reducible] def wordNamed : Named Bits where
  named _ _ {φ} bits := FloatOps.ofBits φ bits

theorem body_same : @Cert.Kernel.cc0__body Bits _ Cert.Kernel.Gen.facts = @Cert.KernelIdeal.cc0__body Bits _ wordNamed Cert.KernelIdeal.Gen.facts := rfl

theorem table_same : @Cert.Kernel.defs₀ Bits _ Cert.Kernel.Gen.facts = @Cert.KernelIdeal.defs₀ Bits _ wordNamed Cert.KernelIdeal.Gen.facts := by
  have hb := body_same
  unfold Cert.Kernel.defs₀ Cert.KernelIdeal.defs₀
  refine congrArg Defs.onTc ?_
  funext l x
  rcases l with ⟨_ | n, h⟩
  · rcases x with ⟨t, s⟩
    show @Cert.Kernel.cc0__body Bits _ Cert.Kernel.Gen.facts _ _ _ _ _ _ _ _ _ _ _ _ _ _ _ _ _ _ _ _ _ _ _ _ _ _ _ _ _ _ _ _ _ _ _ _ _ = _
    rw [hb]
  · exact absurd h (Nat.not_lt.2 (Nat.le_add_left _ _))

theorem defs_same : @Cert.Kernel.defs Bits _ Cert.Kernel.Gen.facts = @Cert.KernelIdeal.defs Bits _ wordNamed Cert.KernelIdeal.Gen.facts :=
  congrArg (Pipeline.defs (Cert.KernelIdeal.pcfgs (F := Bits))) table_same

theorem frame_kernel : Cert.quiescent_Kernel (hKernel := Cert.Kernel.Gen.facts) := fun m ρ _ => by
  letI := wordNamed
  have h := run_args (F := Bits) m ρ
  rw [← defs_same] at h
  exact (θ_run Cert.Kernel.defs _ _).mono (fun _ h => ⟨fun c => (h.1 c).2, h.2⟩) h

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_args (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "rope" .f32 0xBE135D8E#32 ((-((1 / 64) * (Real.log 10000)) : ℝ) : EReal) rfl

theorem frame_ideal_finite : Cert.quiescent_KernelIdeal_pre_finite_KernelIdeal (hKernelIdeal := Cert.KernelIdeal.Gen.facts)
    (hPre_finite_KernelIdeal := Cert.Pre_finite_KernelIdeal.Gen.facts) := fun m ρ _ =>
  frame_ideal m ρ trivial

theorem frame_reference_finite : Cert.quiescent_ReferenceIdeal_pre_finite_ReferenceIdeal (hReferenceIdeal := Cert.ReferenceIdeal.Gen.facts)
    (hPre_finite_ReferenceIdeal := Cert.Pre_finite_ReferenceIdeal.Gen.facts) := fun m ρ _ =>
  frame_reference m ρ trivial

end Cert.Attn

end
-- ==== Proof.Real.lean ====
/- Facts of the real numbers: the angles, the weights of a row, sums over the devices' rows. -/
module

public import Idealize.ShloMosaic.Lib.Pointwise
public import Idealize.ShloMosaic.Lib.IdealHost

@[expose] public section

noncomputable section

namespace Cert.Attn

open Idealize.ShloMosaic

/-! ## Entries that are real -/

/-- The entry is a real number. -/
def IsReal (x : EReal) : Prop := ∃ r : ℝ, x = (r : EReal)

theorem IsReal.coe (r : ℝ) : IsReal (r : EReal) := ⟨r, rfl⟩
theorem IsReal.mul {x y : EReal} (hx : IsReal x) (hy : IsReal y) : IsReal (x * y) := by
  obtain ⟨r, rfl⟩ := hx
  obtain ⟨s, rfl⟩ := hy
  exact ⟨r * s, (EReal.coe_mul r s).symm⟩
theorem IsReal.add {x y : EReal} (hx : IsReal x) (hy : IsReal y) : IsReal (x + y) := by
  obtain ⟨r, rfl⟩ := hx
  obtain ⟨s, rfl⟩ := hy
  exact ⟨r + s, (EReal.coe_add r s).symm⟩
theorem IsReal.neg {x : EReal} (hx : IsReal x) : IsReal (-x) := by
  obtain ⟨r, rfl⟩ := hx
  exact ⟨-r, (EReal.coe_neg r).symm⟩
theorem IsReal.sum {ι : Type*} [Fintype ι] {f : ι → EReal} (hf : ∀ i, IsReal (f i)) : IsReal (∑ i, f i) := by
  classical
  refine Finset.sum_induction f IsReal (fun _ _ => IsReal.add) ⟨0, rfl⟩ fun i _ => hf i
theorem IsReal.of_abs {x : EReal} (h : max x (-x) < ⊤) : IsReal x := by
  induction x with
  | bot => simp at h
  | top => simp at h
  | coe r => exact ⟨r, rfl⟩

/-! ## The angles -/

/-- The angle of the pair `k` of columns at position `t`. -/
def turn (t k : ℕ) : ℝ := (t : ℝ) * (1 / (10000 : ℝ) ^ ((2 * k : ℝ) / 128))

theorem turn_exp (t k : ℕ) : ((t : ℝ) : EReal) * Ideal.exp (((k : ℝ) : EReal) * ((-((1 / 64) * (Real.log 10000)) : ℝ) : EReal)) = (turn t k : EReal) := by
  rw [← EReal.coe_mul, Ideal.exp_coe, ← EReal.coe_mul, turn]
  congr 2
  rw [Real.rpow_def_of_pos (by norm_num), one_div (Real.exp _), ← Real.exp_neg]
  congr 1
  ring

theorem ten_thousand : Ideal.ofBits .f32 0x461C4000#32 = ((10000 : ℝ) : EReal) := by
  simp [Ideal.ofBits, Ideal.ieee, -EReal.coe_mul]; norm_num
theorem one_twenty_eight : Ideal.ofBits .f32 0x43000000#32 = ((128 : ℝ) : EReal) := by
  simp [Ideal.ofBits, Ideal.ieee, -EReal.coe_mul]; norm_num
theorem neg_inf : Ideal.ofBits .f32 0xFF800000#32 = ⊥ := by
  simp [Ideal.ofBits, Ideal.ieee]
theorem pos_inf : Ideal.ofBits .f32 0x7F800000#32 = ⊤ := by
  simp [Ideal.ofBits, Ideal.ieee]
theorem scale_real : IsReal (Ideal.ofBits .f32 0x3DB504F3#32) := by
  refine ⟨11863283 / 134217728, ?_⟩
  simp [Ideal.ofBits, Ideal.ieee, -EReal.coe_mul]; norm_num

theorem turn_pow (t k : ℕ) : ((t : ℝ) : EReal) * Ideal.div 1 (Ideal.pow ((10000 : ℝ) : EReal) (Ideal.div (((2 * k : ℕ) : ℝ) : EReal) ((128 : ℝ) : EReal))) = (turn t k : EReal) := by
  rw [Ideal.div_coe (by norm_num), ← EReal.coe_mul, Ideal.pow_coe_coe]
  have h : Real.rpow 10000 (((2 * k : ℕ) : ℝ) * (1 / 128)) ≠ 0 := (Real.rpow_pos_of_pos (by norm_num) _).ne'
  rw [Ideal.div_coe h, one_mul, ← EReal.coe_mul, turn]
  congr 3
  rw [Real.rpow_eq_pow]
  congr 1
  push_cast
  ring

/-! ## The rotation of a row -/

/-- Column `l` of head `h`. -/
def col (h : Fin 8) (l : Fin 128) : Fin 1024 := ⟨128 * h.val + l.val, by omega⟩
/-- The column beside it in its pair. -/
def mate (l : Fin 128) : Fin 128 := if h : l.val % 2 < 1 then ⟨l.val / 2 * 2 + 1, by omega⟩ else ⟨l.val / 2 * 2, by omega⟩
/-- Head `h` of the row `y` at position `t`, rotated. -/
def spin (t : ℕ) (y : Fin 1024 → EReal) (h : Fin 8) (l : Fin 128) : EReal :=
  y (col h l) * Ideal.cos (turn t (l.val / 2) : EReal)
    + (if l.val % 2 < 1 then -y (col h (mate l)) else y (col h (mate l))) * Ideal.sin (turn t (l.val / 2) : EReal)

theorem spin_real {t : ℕ} {y : Fin 1024 → EReal} (hy : ∀ j, IsReal (y j)) (h : Fin 8) (l : Fin 128) : IsReal (spin t y h l) := by
  refine IsReal.add (IsReal.mul (hy _) ⟨_, Ideal.cos_coe _⟩) (IsReal.mul ?_ ⟨_, Ideal.sin_coe _⟩)
  split
  · exact (hy _).neg
  · exact hy _

/-! ## The weights of a row -/

theorem fold_max_real {ι : Type*} [Fintype ι] [Nonempty ι] (s : ι → ℝ) : IsReal (Finset.univ.fold max (⊥ : EReal) fun i => ((s i : ℝ) : EReal)) := by
  classical
  have h : ∀ A : Finset ι, A.fold max (⊥ : EReal) (fun i => ((s i : ℝ) : EReal)) = ⊥ ∧ A = ∅ ∨ IsReal (A.fold max (⊥ : EReal) fun i => ((s i : ℝ) : EReal)) := by
    intro A
    induction A using Finset.induction_on with
    | empty => exact .inl ⟨rfl, rfl⟩
    | insert a A ha ih =>
      refine .inr ?_
      rw [Finset.fold_insert ha]
      rcases ih with ⟨e, _⟩ | ⟨r, e⟩
      · rw [e]; exact ⟨s a, max_bot_right _⟩
      · rw [e]
        rcases max_choice ((s a : ℝ) : EReal) (r : EReal) with e' | e' <;> rw [e']
        · exact ⟨_, rfl⟩
        · exact ⟨_, rfl⟩
  rcases h Finset.univ with ⟨_, e⟩ | h
  · exact absurd e Finset.univ_nonempty.ne_empty
  · exact h

theorem coe_sum {ι : Type*} [Fintype ι] (f : ι → ℝ) : ((∑ i, f i : ℝ) : EReal) = ∑ i, ((f i : ℝ) : EReal) := by
  classical
  induction (Finset.univ : Finset ι) using Finset.induction_on with
  | empty => rfl
  | insert a A ha ih => rw [Finset.sum_insert ha, Finset.sum_insert ha, EReal.coe_add, ih]

theorem sum_mul_coe {ι : Type*} [Fintype ι] (f : ι → EReal) {c : ℝ} (hc : 0 ≤ c) : (∑ i, f i) * (c : EReal) = ∑ i, f i * (c : EReal) := by
  classical
  induction (Finset.univ : Finset ι) using Finset.induction_on with
  | empty => simp
  | insert a A ha ih =>
    rw [Finset.sum_insert ha, Finset.sum_insert ha,
      EReal.right_distrib_of_nonneg_of_ne_top (by exact_mod_cast hc) (EReal.coe_ne_top c), ih]

/-- The weighted values: weights taken before and after the sum over the row, with and without the row's largest score. -/
theorem weights {ι : Type*} [Fintype ι] [Nonempty ι] (s : ι → EReal) (hs : ∀ i, IsReal (s i)) (v : ι → EReal) :
    Ideal.div (∑ i, Ideal.exp (s i) * v i) (∑ i, Ideal.exp (s i))
      = ∑ i, v i * Ideal.div (Ideal.exp (s i - Finset.univ.fold max (⊥ : EReal) s)) (∑ j, Ideal.exp (s j - Finset.univ.fold max (⊥ : EReal) s)) := by
  choose r hr using hs
  obtain rfl : s = fun i => ((r i : ℝ) : EReal) := funext hr
  obtain ⟨M, hM⟩ := fold_max_real r
  rw [hM]
  have e1 : (∑ i, Ideal.exp ((r i : ℝ) : EReal)) = ((∑ i, Real.exp (r i) : ℝ) : EReal) := by
    rw [coe_sum]; exact Finset.sum_congr rfl fun i _ => Ideal.exp_coe _
  have e2 : (∑ i, Ideal.exp (((r i : ℝ) : EReal) - (M : EReal))) = ((∑ i, Real.exp (r i - M) : ℝ) : EReal) := by
    rw [coe_sum]; exact Finset.sum_congr rfl fun i _ => by rw [← EReal.coe_sub, Ideal.exp_coe]
  have p1 : 0 < ∑ i, Real.exp (r i) := Finset.sum_pos (fun i _ => Real.exp_pos _) Finset.univ_nonempty
  have p2 : 0 < ∑ i, Real.exp (r i - M) := Finset.sum_pos (fun i _ => Real.exp_pos _) Finset.univ_nonempty
  rw [e1, e2, Ideal.div_coe p1.ne', sum_mul_coe _ (by positivity)]
  refine Finset.sum_congr rfl fun i _ => ?_
  rw [Ideal.div_coe p2.ne', ← EReal.coe_sub, Ideal.exp_coe, Ideal.exp_coe, mul_comm _ (v i), mul_assoc, ← EReal.coe_mul, ← EReal.coe_mul]
  congr 2
  have e3 : (∑ j, Real.exp (r j - M)) = (∑ j, Real.exp (r j)) * Real.exp (-M) := by
    rw [Finset.sum_mul]; exact Finset.sum_congr rfl fun j _ => by rw [← Real.exp_add, sub_eq_add_neg]
  rw [e3, sub_eq_add_neg, Real.exp_add]
  have := Real.exp_pos (-M)
  field_simp

/-! ## Sums over the rows -/

/-- Row `i` of device `c`, among the rows of all. -/
def rowOf (c : Fin 4) (i : Fin 512) : Fin 2048 := ⟨512 * c.val + i.val, by omega⟩

theorem sum_rows (f : Fin 2048 → EReal) : ∑ t, f t = ∑ c : Fin 4, ∑ i : Fin 512, f (rowOf c i) := by
  rw [← Fintype.sum_prod_type' (f := fun c i => f (rowOf c i))]
  refine (Fintype.sum_equiv (finProdFinEquiv (m := 4) (n := 512)) _ _ fun p => ?_).symm
  congr 1
  exact Fin.ext (by simp [rowOf, finProdFinEquiv]; omega)

end Cert.Attn

end
-- ==== Proof.Point.lean ====
/- The kernel's values read at an index, over the extended reals. -/
module

public import proofs.«01_k».proof.Proof.Body
public import proofs.«01_k».proof.Proof.Real

@[expose] public section

set_option maxRecDepth 16384

noncomputable section

namespace Cert.Attn

open Idealize.ShloMosaic Idealize.ShloMosaic.TcCoe
open Idealize.SL Idealize.SL.Sem
open Idealize.ShloMosaic.Pointwise
open Cert.KernelIdeal
open Facts₀ Facts

attribute [local instance] theFacts

/-- Row `i` of batch `b`, among the rows of both batches. -/
def row (b : Fin 2) (i : Fin 512) : Fin 1024 := ⟨512 * b.val + i.val, by omega⟩

/-- An entry of the projected rows. -/
theorem projV_at (x : FVec Ideal S2x512x1024 .f32) (w : FVec Ideal S1024x1024 .f32) (b : Fin 2) (i : Fin 512) (j : Fin 1024) :
    projV x w (ix2 (row b i) j) = ∑ k : Fin 1024, x (ix3 b i k) * w (ix2 k j) := by
  pointwise [projV, xV, row]

/-- An entry of a block of exponentials. -/
theorem eV_at (q : FVec Ideal S512x128 .bf16) (k : FVec Ideal S1x512x128 .fp8e4m3) (i u : Fin 512) :
    eV (F := Ideal) q k (ix2 i u) = Ideal.exp ((∑ l : Fin 128, (q (ix2 i l) : EReal) * k (ix3 0 u l)) * Ideal.ofBits .f32 0x3DB504F3#32) := by
  pointwise [eV]

theorem sumV_at (e : FVec Ideal S512x512 .f32) (i : Fin 512) :
    sumV (F := Ideal) e (ix2 i 0) = ∑ u : Fin 512, (e (ix2 i u) : EReal) := by
  pointwise [sumV]

theorem pvV_at (e : FVec Ideal S512x512 .f32) (v : FVec Ideal S1x512x128 .bf16) (i : Fin 512) (l : Fin 128) :
    pvV (F := Ideal) e v (ix2 i l) = ∑ u : Fin 512, (e (ix2 i u) : EReal) * v (ix3 0 u l) := by
  pointwise [pvV]

theorem quotV_at (a : FVec Ideal S512x128 .f32) (s : FVec Ideal S512x1 .f32) (i : Fin 512) (l : Fin 128) :
    quotV (F := Ideal) a s (ix2 i l) = Ideal.div (a (ix2 i l)) (s (ix2 i 0)) := by
  pointwise [quotV]

theorem outV_at (q : FVec Ideal S1024x1024 .bf16) (w : FVec Ideal S1024x1024 .f32) (b : Fin 2) (i : Fin 512) (n : Fin 1024) :
    outV (F := Ideal) q w (ix3 b i n) = ∑ j : Fin 1024, (q (ix2 (row b i) j) : EReal) * w (ix2 j n) := by
  pointwise [outV, row]
  simp only [Nat.mul_comm]

theorem position : ∀ (d : Dev nD) (b : Fin 2) (i : Fin 512),
    (IntOp.addi (Scalar.muli (Scalar.remsi (Scalar.divsi d.word 1#32) 4#32) 512#32)
      (IntOp.remsi ArithUnit.vector (BitVec.ofNat 32 (512 * b.val + i.val)) 512#32)).toInt = ((512 * d.val + i.val : ℕ) : ℤ) := by
  decide +kernel
theorem halves : ∀ l : Fin 128, (Scalar.select
    (IntOp.andi
      (IntOp.cmpi CmpIPredicate.ne
        (IntOp.subi (BitVec.setWidth 32 (IntOp.cmpi CmpIPredicate.sgt (BitVec.ofNat 32 l.val) 0#32))
          (BitVec.setWidth 32 (IntOp.cmpi CmpIPredicate.slt (BitVec.ofNat 32 l.val) 0#32)))
        (Scalar.subi (Scalar.extui (Scalar.cmpi CmpIPredicate.sgt 2#32 0#32))
          (Scalar.extui (Scalar.cmpi CmpIPredicate.slt 2#32 0#32))))
      (IntOp.cmpi CmpIPredicate.ne (IntOp.remsi ArithUnit.vector (BitVec.ofNat 32 l.val) 2#32) 0#32))
    (IntOp.subi (IntOp.divsi ArithUnit.vector (BitVec.ofNat 32 l.val) 2#32) 1#32)
    (IntOp.divsi ArithUnit.vector (BitVec.ofNat 32 l.val) 2#32)).toInt = ((l.val / 2 : ℕ) : ℤ) := by
  decide +kernel
theorem even_word : ∀ l : Fin 128, IntOp.cmpi CmpIPredicate.eq (IntOp.remsi ArithUnit.vector (BitVec.ofNat 32 l.val) 2#32) 0#32
    = if l.val % 2 < 1 then 1#1 else 0#1 := by
  decide +kernel

theorem rope_const : (Named.named κ "rope" 0xBE135D8E#32 : Ideal .f32) = ((-((1 / 64) * (Real.log 10000)) : ℝ) : EReal) := rfl

theorem ropeV_at (d : Dev nD) (y : FVec Ideal S1024x1024 .f32) (h : Fin 8) (b : Fin 2) (i : Fin 512) (l : Fin 128) :
    ropeV d y h (ix2 (row b i) l) = spin (512 * d.val + i.val) (fun j => y (ix2 (row b i) j)) h l := by
  have e1 := position d b i
  have e2 := halves l
  have e3 := even_word l
  pointwise [ropeV, cosV, sinV, evenV, freqV, posV, colV, halfV, row]
  rw [rope_const, e3]
  change _ * Ideal.cos ((((BitVec.toInt _ : ℤ) : ℝ) : EReal) * Ideal.exp ((((BitVec.toInt _ : ℤ) : ℝ) : EReal) * _))
    + _ * Ideal.sin ((((BitVec.toInt _ : ℤ) : ℝ) : EReal) * Ideal.exp ((((BitVec.toInt _ : ℤ) : ℝ) : EReal) * _)) = _
  rw [e1, e2]
  simp only [Int.cast_natCast]
  rw [turn_exp]
  unfold spin mate col
  congr 2
  by_cases hl : l.val % 2 < 1
  · simp only [if_pos hl, dif_pos hl]
    show 0 - _ = _
    rw [zero_sub]
    congr 3
    exact Fin.ext (by show 128 * h.val + (l.val + 128 - 127) % 128 = 128 * h.val + (l.val / 2 * 2 + 1); omega)
  · simp only [if_neg hl, dif_neg hl]
    show y _ = y _
    congr 2
    exact Fin.ext (by show 128 * h.val + (l.val + 128 - 1) % 128 = 128 * h.val + l.val / 2 * 2; omega)

end Cert.Attn

end
-- ==== Proof.Ref.lean ====
/- The reference's result in stages, each read at an index over the extended reals. -/
module

public import proofs.«01_k».proof.Proof.Gen.ReferenceIdeal.Run
public import proofs.«01_k».proof.Proof.Real

@[expose] public section

set_option maxRecDepth 16384

noncomputable section

namespace Cert.Attn.Ref

open Idealize.ShloMosaic Idealize.ShloMosaic.TcCoe
open Idealize.SL Idealize.SL.Sem
open Idealize.ShloMosaic.StableHlo
open Cert.ReferenceIdeal Cert.ReferenceIdeal.Gen Cert.ReferenceIdeal.Value

variable {F : FTy → Type} [FloatOps F]

/-- The frequencies. -/
def freq : FVec F S64 .f32 :=
  Host.divf (broadcastInDim S64 ![] bcast_S_S64 (constant S_ .f32 0x3F800000#32))
    (Host.powf (broadcastInDim S64 ![] bcast_S_S64 (constant S_ .f32 0x461C4000#32))
      (Host.divf (sitofp .f32 (addi (broadcastInDim S64 ![] bcast_S_S64 (constantI S_ 32 0#32))
          (muli (broadcastInDim S64 ![] bcast_S_S64 (constantI S_ 32 2#32)) (iotaInDim S64 32 0))))
        (broadcastInDim S64 ![] bcast_S_S64 (constant S_ .f32 0x43000000#32))))
/-- The angles: a row's position by the frequencies. -/
def angle : FVec F S2048x64 .f32 :=
  mulf (broadcastInDim S2048x64 ![0, 1] bcast_S2048x1_S2048x64_0_1 (sitofp .f32 (broadcastInDim S2048x1 ![0] bcast_S2048_S2048x1_0 (iotaInDim S2048 32 0))))
    (broadcastInDim S2048x64 ![0, 1] bcast_S1x64_S2048x64_0_1 (broadcastInDim S1x64 ![1] bcast_S64_S1x64_1 freq))
/-- A table of the angles, spread over the pairs of columns, the batches and the heads. -/
def spread (t : FVec F S2048x64 .f32) : FVec F S2x2048x8x128 .f32 :=
  broadcastInDim S2x2048x8x128 ![0, 1, 2, 3] bcast_S1x2048x1x128_S2x2048x8x128_0_1_2_3
    (broadcastInDim S1x2048x1x128 ![1, 3] bcast_S2048x128_S1x2048x1x128_1_3
      (shapeCast _ (broadcastInDim S2048x64x2 ![0, 1] bcast_S2048x64_S2048x64x2_0_1 t) shapeCasts_S2048x64x2_S2048x128))
/-- The projection of the rows. -/
def proj (x : FVec F S2x2048x1024 .f32) (w : FVec F S1024x1024 .f32) : FVec F S2x2048x1024 .f32 :=
  Host.dotGeneral dot_S2x2048x1024_S1024x1024_S2x2048x1024_2_0_01_1_n_n none x w
/-- Its columns by heads. -/
def heads (y : FVec F S2x2048x1024 .f32) : FVec F S2x2048x8x128 .f32 := shapeCast _ y shapeCasts_S2x2048x1024_S2x2048x8x128
/-- The columns of a head swapped in pairs, the one that becomes the first of its pair negated. -/
def swap (t : FVec F S2x2048x8x128 .f32) : FVec F S2x2048x8x128 .f32 :=
  shapeCast _ (fn_main_v35
    (broadcastInDim S2x2048x8x64x1 ![0, 1, 2, 3] bcast_S2x2048x8x64_S2x2048x8x64x1_0_1_2_3
      (Host.negf (shapeCast _ (extractStridedSlice S2x2048x8x64x1 ![0, 0, 0, 0, 1] (shapeCast _ t shapeCasts_S2x2048x8x128_S2x2048x8x64x2) slices_S2x2048x8x64x2_S2x2048x8x64x1_0_0_0_0_1)
        shapeCasts_S2x2048x8x64x1_S2x2048x8x64)))
    (broadcastInDim S2x2048x8x64x1 ![0, 1, 2, 3] bcast_S2x2048x8x64_S2x2048x8x64x1_0_1_2_3
      (shapeCast _ (extractStridedSlice S2x2048x8x64x1 ![0, 0, 0, 0, 0] (shapeCast _ t shapeCasts_S2x2048x8x128_S2x2048x8x64x2) slices_S2x2048x8x64x2_S2x2048x8x64x1_0_0_0_0_0)
        shapeCasts_S2x2048x8x64x1_S2x2048x8x64)))
    shapeCasts_S2x2048x8x64x2_S2x2048x8x128
/-- The rotation. -/
def rot (t : FVec F S2x2048x8x128 .f32) : FVec F S2x2048x8x128 .f32 :=
  addf (mulf t (spread (Host.cos angle))) (mulf (swap t) (spread (Host.sin angle)))
/-- The scores. -/
def score (q k : FVec F S2x2048x8x128 .f32) : FVec F S2x8x2048x2048 .f32 :=
  mulf (Host.dotGeneral dot_S2x2048x8x128_S2x2048x8x128_S2x8x2048x2048_3_3_1_1_02_02 none q k)
    (broadcastInDim S2x8x2048x2048 ![] bcast_S_S2x8x2048x2048 (constant S_ .f32 0x3DB504F3#32))
/-- A row's value, spread over the row. -/
def along (a : FVec F S2x8x2048 .f32) : FVec F S2x8x2048x2048 .f32 :=
  broadcastInDim S2x8x2048x2048 ![0, 1, 2, 3] bcast_S2x8x2048x1_S2x8x2048x2048_0_1_2_3
    (broadcastInDim S2x8x2048x1 ![0, 1, 2] bcast_S2x8x2048_S2x8x2048x1_0_1_2 a)
def top (s : FVec F S2x8x2048x2048 .f32) : FVec F S2x8x2048 .f32 :=
  Host.reduce FloatOps.maximumf s (constant S_ .f32 0xFF800000#32) reducesTo_S2x8x2048x2048_S2x8x2048_d3 h_S_
def expo (s : FVec F S2x8x2048x2048 .f32) : FVec F S2x8x2048x2048 .f32 := Host.exp (subf s (along (top s)))
def total (e : FVec F S2x8x2048x2048 .f32) : FVec F S2x8x2048 .f32 :=
  Host.reduceAdd e (constant S_ .f32 0x00000000#32) reducesTo_S2x8x2048x2048_S2x8x2048_d3 h_S_
/-- The weights of a row. -/
def soft (s : FVec F S2x8x2048x2048 .f32) : FVec F S2x8x2048x2048 .f32 := Host.divf (expo s) (along (total (expo s)))
/-- The weighted values, the heads beside each other. -/
def ctx (v : FVec F S2x2048x8x128 .f32) (p : FVec F S2x8x2048x2048 .f32) : FVec F S2x2048x1024 .f32 :=
  shapeCast _ (transpose S2x2048x8x128 [0, 3, 1, 2] (Host.dotGeneral dot_S2x2048x8x128_S2x8x2048x2048_S2x8x128x2048_1_3_3_2_02_01 none v p)
    transposes_S2x8x128x2048_S2x2048x8x128_0_3_1_2) shapeCasts_S2x2048x8x128_S2x2048x1024
/-- The whole. -/
def attn (x : FVec F S2x2048x1024 .f32) (wq wk wv wo : FVec F S1024x1024 .f32) : FVec F S2x2048x1024 .f32 :=
  proj (ctx (heads (proj x wv)) (soft (score (rot (heads (proj x wq))) (rot (heads (proj x wk)))))) wo

set_option maxHeartbeats 2000000 in
theorem res_eq (m : (ℓ : Loc nD τ sig) → Buf (Elt F) ℓ) (c : Dev nD) :
    res_main_v80 m c = attn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

open Idealize.ShloMosaic.Pointwise

theorem angle_at (t : Fin 2048) (k : Fin 64) : angle (F := Ideal) (ix2 t k) = (turn t.val k.val : EReal) := by
  have e1 : (BitVec.ofNat 32 t.val).toInt = (t.val : ℤ) := by revert t; decide +kernel
  have e2 : (IntOp.addi (0#32) (IntOp.muli (2#32) (BitVec.ofNat 32 k.val))).toInt = ((2 * k.val : ℕ) : ℤ) := by revert k; decide +kernel
  pointwise [angle, freq]
  rw [ten_thousand, one_twenty_eight]
  change (((BitVec.toInt _ : ℤ) : ℝ) : EReal) * Ideal.div 1 (Ideal.pow _ (Ideal.div (((BitVec.toInt _ : ℤ) : ℝ) : EReal) _)) = _
  rw [e1, e2, ← turn_pow]
  simp only [Int.cast_natCast]
theorem spread_at (a : FVec Ideal S2048x64 .f32) (b : Fin 2) (t : Fin 2048) (h : Fin 8) (l : Fin 128) :
    spread a (ix4 b t h l) = a (ix2 t ⟨l.val / 2, by omega⟩) := by
  pointwise [spread]
theorem swap_at (a : FVec Ideal S2x2048x8x128 .f32) (b : Fin 2) (t : Fin 2048) (h : Fin 8) (l : Fin 128) :
    swap (F := Ideal) a (ix4 b t h l) = if l.val % 2 < 1 then -(a (ix4 b t h (mate l)) : EReal) else a (ix4 b t h (mate l)) := by
  pointwise [swap, fn_main_v35]
  unfold mate
  split <;> rfl
theorem heads_at (y : FVec Ideal S2x2048x1024 .f32) (b : Fin 2) (t : Fin 2048) (h : Fin 8) (l : Fin 128) :
    heads y (ix4 b t h l) = y (ix3 b t (col h l)) := by
  pointwise [heads, col]
  simp only [Nat.mul_comm 128]
theorem cos_at (b : Fin 2) (t : Fin 2048) (h : Fin 8) (l : Fin 128) :
    spread (F := Ideal) (Host.cos angle) (ix4 b t h l) = Ideal.cos (turn t.val (l.val / 2) : EReal) := by
  have e := angle_at t ⟨l.val / 2, by omega⟩
  rw [spread_at]
  generalize angle (F := Ideal) = a at e ⊢
  pointwise []
  rw [e]
theorem sin_at (b : Fin 2) (t : Fin 2048) (h : Fin 8) (l : Fin 128) :
    spread (F := Ideal) (Host.sin angle) (ix4 b t h l) = Ideal.sin (turn t.val (l.val / 2) : EReal) := by
  have e := angle_at t ⟨l.val / 2, by omega⟩
  rw [spread_at]
  generalize angle (F := Ideal) = a at e ⊢
  pointwise []
  rw [e]
theorem rot_at (y : FVec Ideal S2x2048x1024 .f32) (b : Fin 2) (t : Fin 2048) (h : Fin 8) (l : Fin 128) :
    rot (heads y) (ix4 b t h l) = spin t.val (fun j => y (ix3 b t j)) h l := by
  have ec := cos_at b t h l
  have es := sin_at b t h l
  have e1 := swap_at (heads y) b t h l
  have e2 := heads_at y b t h l
  have e3 := heads_at y b t h (mate l)
  unfold rot
  generalize spread (F := Ideal) (Host.cos angle) = C at ec ⊢
  generalize spread (F := Ideal) (Host.sin angle) = S at es ⊢
  generalize swap (heads y) = Z at e1 ⊢
  generalize heads y = Y at e1 e2 e3 ⊢
  rw [ValueIdx.addf_apply, ValueIdx.mulf_apply, ValueIdx.mulf_apply, ec, es, e1, e2, e3]
  rfl
theorem proj_at (x : FVec Ideal S2x2048x1024 .f32) (w : FVec Ideal S1024x1024 .f32) (b : Fin 2) (t : Fin 2048) (j : Fin 1024) :
    proj (F := Ideal) x w (ix3 b t j) = ∑ k : Fin 1024, (x (ix3 b t k) : EReal) * w (ix2 k j) := by
  pointwise [proj]
theorem score_at (q k : FVec Ideal S2x2048x8x128 .f32) (b : Fin 2) (t u : Fin 2048) (h : Fin 8) :
    score (F := Ideal) q k (ix4 b h t u) = (∑ l : Fin 128, (q (ix4 b t h l) : EReal) * k (ix4 b u h l)) * Ideal.ofBits .f32 0x3DB504F3#32 := by
  pointwise [score]
theorem soft_at (s : FVec Ideal S2x8x2048x2048 .f32) (b : Fin 2) (t u : Fin 2048) (h : Fin 8) :
    soft (F := Ideal) s (ix4 b h t u) = Ideal.div (Ideal.exp (s (ix4 b h t u) - Finset.univ.fold max (⊥ : EReal) fun u => s (ix4 b h t u)))
      (∑ u' : Fin 2048, Ideal.exp (s (ix4 b h t u') - Finset.univ.fold max (⊥ : EReal) fun u => s (ix4 b h t u))) := by
  pointwise [soft, expo, total, top, along]
  rw [neg_inf]
theorem ctx_at (y : FVec Ideal S2x2048x1024 .f32) (p : FVec Ideal S2x8x2048x2048 .f32) (b : Fin 2) (t : Fin 2048) (h : Fin 8) (l : Fin 128) :
    ctx (F := Ideal) (heads y) p (ix3 b t (col h l)) = ∑ u : Fin 2048, (y (ix3 b u (col h l)) : EReal) * p (ix4 b h t u) := by
  pointwise [ctx, heads, col]
  simp only [Nat.mul_comm 128]

end Cert.Attn.Ref

end
-- ==== Proof.Agree.lean ====
/- The kernel's result and the reference's agree on rows of finite entries. -/
module

public import proofs.«01_k».proof.Proof.Point
public import proofs.«01_k».proof.Proof.Ref

@[expose] public section

set_option maxRecDepth 16384

noncomputable section

namespace Cert.Attn

open Idealize.ShloMosaic Idealize.ShloMosaic.TcCoe
open Idealize.SL Idealize.SL.Sem
open Idealize.ShloMosaic.Pointwise
open Cert.KernelIdeal
open Facts₀ Facts

attribute [local instance] theFacts

/-- The whole inputs. -/
structure Whole where
  x : FVec Ideal Cert.ReferenceIdeal.S2x2048x1024 .f32
  wq : FVec Ideal S1024x1024 .f32
  wk : FVec Ideal S1024x1024 .f32
  wv : FVec Ideal S1024x1024 .f32
  wo : FVec Ideal S1024x1024 .f32

/-- The devices' inputs are the rows of `x`, and the weights. -/
structure Whole.Of (A : Whole) (I : Ins Ideal) : Prop where
  x : ∀ (d : Dev nD) (b : Fin 2) (i : Fin 512) (k : Fin 1024), I.x d (ix3 b i k) = A.x (ix3 b (rowOf d i) k)
  wq : ∀ d, I.wq d = A.wq
  wk : ∀ d, I.wk d = A.wk
  wv : ∀ d, I.wv d = A.wv
  wo : ∀ d, I.wo d = A.wo

variable {A : Whole} {I : Ins Ideal}

/-- The reference's queries, keys, values and scores. -/
def Whole.q (A : Whole) (b : Fin 2) (t : Fin 2048) (g : Fin 8) (l : Fin 128) : EReal := Ref.rot (Ref.heads (Ref.proj A.x A.wq)) (ix4 b t g l)
def Whole.k (A : Whole) (b : Fin 2) (t : Fin 2048) (g : Fin 8) (l : Fin 128) : EReal := Ref.rot (Ref.heads (Ref.proj A.x A.wk)) (ix4 b t g l)
def Whole.v (A : Whole) (b : Fin 2) (t : Fin 2048) (j : Fin 1024) : EReal := Ref.proj A.x A.wv (ix3 b t j)
def Whole.s (A : Whole) (b : Fin 2) (g : Fin 8) (t u : Fin 2048) : EReal := (∑ l : Fin 128, A.q b t g l * A.k b u g l) * Ideal.ofBits .f32 0x3DB504F3#32

theorem proj_rows (O : A.Of I) (w : FVec Ideal S1024x1024 .f32) (d : Dev nD) (b : Fin 2) (i : Fin 512) (j : Fin 1024) :
    projV (I.x d) w (ix2 (row b i) j) = Ref.proj A.x w (ix3 b (rowOf d i) j) := by
  rw [projV_at, Ref.proj_at]
  exact Finset.sum_congr rfl fun k _ => by rw [O.x]

theorem rope_rows (O : A.Of I) (w : FVec Ideal S1024x1024 .f32) (d : Dev nD) (b : Fin 2) (i : Fin 512) (h : Fin 8) (l : Fin 128) :
    ropeV d (projV (I.x d) w) h (ix2 (row b i) l) = Ref.rot (Ref.heads (Ref.proj A.x w)) (ix4 b (rowOf d i) h l) := by
  rw [ropeV_at, Ref.rot_at]
  exact congrArg (fun y => spin (512 * d.val + i.val) y h l) (funext fun j => proj_rows O w d b i j)

theorem qrys_at (O : A.Of I) (d : Dev nD) (b : Fin 2) (g : Fin 8) (i : Fin 512) (l : Fin 128) :
    tBlk.cut (I.qrys d) (b, g) (ix2 i l) = A.q b (rowOf d i) g l := by
  refine Eq.trans ?_ ((congrArg (fun w => ropeV d (projV (I.x d) w) g (ix2 (row b i) l)) (O.wq d)).trans (rope_rows O A.wq d b i g l))
  exact congrFun (congrFun (tHead.cut_tile fun h => qHead d (projV (I.x d) (I.wq d)) h) g) (ix2 (row b i) l)

theorem hd_dir (g : Fin 8) : hd (dirOf g) (inDir g) = g := by revert g; decide

theorem kBlk_at {φ : EltTy} (X : S1024x512.Idx → Elt Ideal φ) (b : Fin 2) (h : Fin 4) (u : Fin 512) (l : Fin 128) :
    kBlk X (b, h) (ix3 0 u l) = X (ix2 (row b u) ⟨128 * h.val + l.val, by omega⟩) := rfl
theorem tKey_at {α : Type} (W : Fin 4 → S1x1024x128.Idx → α) (h : Fin 4) (t : Fin 1024) (l : Fin 128) :
    tKey.tile W (ix2 t ⟨128 * h.val + l.val, by omega⟩) = W h (ix3 0 t l) :=
  congrFun (congrFun (tKey.cut_tile W) h) (ix3 0 t l)
theorem tSlot_at {α : Type} (W : Unit → S1x1024x512.Idx → α) (t : Fin 1024) (j : Fin 512) :
    tSlot.tile W (ix2 t j) = W () (ix3 0 t j) :=
  congrFun (congrFun (tSlot.cut_tile W) ()) (ix3 0 t j)

theorem keysV_at (d : Dev nD) (x : FVec Ideal S2x512x1024 .f32) (w : FVec Ideal S1024x1024 .f32) (r : Fin 2) (h : Fin 4) (b : Fin 2)
    (u : Fin 512) (l : Fin 128) : kBlk (F := Ideal) (keysV d x w r) (b, h) (ix3 0 u l) = ropeV (F := Ideal) d (projV x w) (hd r h) (ix2 (row b u) l) := by
  refine (kBlk_at (keysV (F := Ideal) d x w r) b h u l).trans ?_
  unfold keysV
  rw [tKey_at]
  generalize projV (F := Ideal) x w = y
  pointwise [kHead]

theorem valsV_at (x : FVec Ideal S2x512x1024 .f32) (w : FVec Ideal S1024x1024 .f32) (r : Fin 2) (h : Fin 4) (b : Fin 2)
    (u : Fin 512) (l : Fin 128) : kBlk (F := Ideal) (valsV x w r) (b, h) (ix3 0 u l) = projV (F := Ideal) x w (ix2 (row b u) (col (hd r h) l)) := by
  refine (kBlk_at (valsV (F := Ideal) x w r) b h u l).trans ?_
  unfold valsV
  rw [tSlot_at]
  generalize projV (F := Ideal) x w = y
  pointwise [vHalf]
  refine congrArg (fun j => y (ix2 (row b u) j)) (Fin.ext ?_)
  show 512 * r.val + (128 * h.val + l.val) = 128 * (4 * r.val + h.val) + l.val
  omega

theorem keys_at (O : A.Of I) (n : ℕ) (d : Dev nD) (b : Fin 2) (g : Fin 8) (u : Fin 512) (l : Fin 128) :
    kBlk (I.keys n d (dirOf g)) (b, inDir g) (ix3 0 u l) = A.k b (rowOf (org (dirOf g) n d) u) g l := by
  refine (keysV_at (org (dirOf g) n d) (I.x _) (I.wk _) (dirOf g) (inDir g) b u l).trans ?_
  rw [hd_dir, O.wk]
  exact rope_rows O A.wk _ b u g l

theorem vals_at (O : A.Of I) (n : ℕ) (d : Dev nD) (b : Fin 2) (g : Fin 8) (u : Fin 512) (l : Fin 128) :
    kBlk (I.vals n d (dirOf g)) (b, inDir g) (ix3 0 u l) = A.v b (rowOf (org (dirOf g) n d) u) (col g l) := by
  refine (valsV_at (I.x (org (dirOf g) n d)) (I.wv _) (dirOf g) (inDir g) b u l).trans ?_
  rw [hd_dir, O.wv]
  exact proj_rows O A.wv _ b u (col g l)

theorem exp_at (O : A.Of I) (n : ℕ) (d : Dev nD) (b : Fin 2) (g : Fin 8) (i u : Fin 512) :
    expP (I.qrys d) (I.keys n d) (b, g) (ix2 i u) = Ideal.exp (A.s b g (rowOf d i) (rowOf (org (dirOf g) n d) u)) := by
  refine (eV_at _ _ i u).trans ?_
  unfold Whole.s
  congr 2
  exact Finset.sum_congr rfl fun l _ => by rw [qrys_at O, keys_at O]

theorem sumP_at (O : A.Of I) (n : ℕ) (d : Dev nD) (b : Fin 2) (g : Fin 8) (i : Fin 512) :
    sumP (I.qrys d) (I.keys n d) (b, g) (ix2 i 0) = ∑ u : Fin 512, Ideal.exp (A.s b g (rowOf d i) (rowOf (org (dirOf g) n d) u)) :=
  (sumV_at _ i).trans (Finset.sum_congr rfl fun u _ => exp_at O n d b g i u)

theorem accP_at (O : A.Of I) (n : ℕ) (d : Dev nD) (b : Fin 2) (g : Fin 8) (i : Fin 512) (l : Fin 128) :
    accP (I.qrys d) (I.keys n d) (I.vals n d) (b, g) (ix2 i l)
      = ∑ u : Fin 512, Ideal.exp (A.s b g (rowOf d i) (rowOf (org (dirOf g) n d) u)) * A.v b (rowOf (org (dirOf g) n d) u) (col g l) :=
  (pvV_at _ _ i l).trans (Finset.sum_congr rfl fun u _ => by rw [exp_at O, vals_at O])

/-- The row sums and the accumulator, as sums over the devices passed. -/
theorem sums_at (O : A.Of I) (d : Dev nD) (b : Fin 2) (g : Fin 8) (i : Fin 512) (l : Fin 128) (n : ℕ) :
    (I.sums d n (b, g)).1 (ix2 i 0) = ∑ k ∈ Finset.range (n + 1), ∑ u : Fin 512, Ideal.exp (A.s b g (rowOf d i) (rowOf (org (dirOf g) k d) u))
    ∧ (I.sums d n (b, g)).2 (ix2 i l) = ∑ k ∈ Finset.range (n + 1), ∑ u : Fin 512,
        Ideal.exp (A.s b g (rowOf d i) (rowOf (org (dirOf g) k d) u)) * A.v b (rowOf (org (dirOf g) k d) u) (col g l) := by
  induction n with
  | zero =>
    rw [Finset.sum_range_one, Finset.sum_range_one]
    exact ⟨sumP_at O 0 d b g i, accP_at O 0 d b g i l⟩
  | succ n ih =>
    rw [Finset.sum_range_succ, Finset.sum_range_succ _ (n + 1), ← ih.1, ← ih.2, ← sumP_at O (n + 1) d b g i, ← accP_at O (n + 1) d b g i l]
    exact ⟨rfl, rfl⟩

theorem org_all : ∀ (r : Fin 2) (d : Dev nD), Function.Bijective fun k : Fin 4 => (org r k.val d : Fin 4) := by decide

/-- Each device's rows are met once. -/
theorem sum_org (r : Fin 2) (d : Dev nD) (f : Fin 2048 → EReal) :
    ∑ k ∈ Finset.range (3 + 1), ∑ u : Fin 512, f (rowOf (org r k d) u) = ∑ t, f t := by
  rw [sum_rows, Finset.sum_range]
  exact (org_all r d).sum_comp fun c => ∑ u : Fin 512, f (rowOf c u)

/-- A block of the quotients. -/
theorem quot_at (O : A.Of I) (d : Dev nD) (b : Fin 2) (g : Fin 8) (i : Fin 512) (l : Fin 128) :
    quotP (I.sums d 3) (ix2 (row b i) (col g l))
      = Ideal.div (∑ t, Ideal.exp (A.s b g (rowOf d i) t) * A.v b t (col g l)) (∑ t, Ideal.exp (A.s b g (rowOf d i) t)) := by
  refine (congrFun (congrFun (tBlk.cut_tile fun p => quotV (I.sums d 3 p).2 (I.sums d 3 p).1) (b, g)) (ix2 i l)).trans ?_
  refine (quotV_at _ _ i l).trans ?_
  rw [(sums_at O d b g i l 3).1, (sums_at O d b g i l 3).2, sum_org (dirOf g) d fun t => Ideal.exp (A.s b g (rowOf d i) t),
    sum_org (dirOf g) d fun t => Ideal.exp (A.s b g (rowOf d i) t) * A.v b t (col g l)]

/-- The inputs of the scores are finite. -/
structure Whole.Finite (A : Whole) : Prop where
  x : ∀ b t k, IsReal (A.x (ix3 b t k))
  wq : ∀ k j, IsReal (A.wq (ix2 k j))
  wk : ∀ k j, IsReal (A.wk (ix2 k j))

theorem rot_real (hx : ∀ b t k, IsReal (A.x (ix3 b t k))) {w : FVec Ideal S1024x1024 .f32} (hw : ∀ k j, IsReal (w (ix2 k j)))
    (b : Fin 2) (t : Fin 2048) (g : Fin 8) (l : Fin 128) : IsReal (Ref.rot (Ref.heads (Ref.proj A.x w)) (ix4 b t g l)) := by
  rw [Ref.rot_at]
  refine spin_real (fun j => ?_) g l
  rw [Ref.proj_at]
  exact IsReal.sum fun k => (hx b t k).mul (hw k j)

theorem score_real (hA : A.Finite) (b : Fin 2) (g : Fin 8) (t u : Fin 2048) : IsReal (A.s b g t u) :=
  (IsReal.sum fun l => (rot_real hA.x hA.wq b t g l).mul (rot_real hA.x hA.wk b u g l)).mul scale_real

theorem ref_ctx (b : Fin 2) (t : Fin 2048) (g : Fin 8) (l : Fin 128) :
    Ref.ctx (Ref.heads (Ref.proj A.x A.wv)) (Ref.soft (Ref.score (Ref.rot (Ref.heads (Ref.proj A.x A.wq))) (Ref.rot (Ref.heads (Ref.proj A.x A.wk)))))
        (ix3 b t (col g l))
      = ∑ u, A.v b u (col g l) * Ideal.div (Ideal.exp (A.s b g t u - Finset.univ.fold max (⊥ : EReal) (A.s b g t)))
          (∑ u', Ideal.exp (A.s b g t u' - Finset.univ.fold max (⊥ : EReal) (A.s b g t))) := by
  rw [Ref.ctx_at]
  refine Finset.sum_congr rfl fun u _ => ?_
  rw [Ref.soft_at]
  simp only [Ref.score_at]
  rfl

/-- The result of a device is its rows of the reference's. -/
theorem res_at (O : A.Of I) (hA : A.Finite) (d : Dev nD) (b : Fin 2) (i : Fin 512) (n : Fin 1024) :
    I.res d (ix3 b i n) = Ref.attn A.x A.wq A.wk A.wv A.wo (ix3 b (rowOf d i) n) := by
  refine (outV_at _ _ b i n).trans ?_
  unfold Ref.attn
  rw [Ref.proj_at]
  refine Finset.sum_congr rfl fun j _ => ?_
  rw [O.wo]
  refine congrArg (fun z : EReal => z * A.wo (ix2 j n)) ?_
  obtain ⟨g, l, rfl⟩ : ∃ g l, j = col g l := ⟨⟨j.val / 128, by omega⟩, ⟨j.val % 128, by omega⟩, Fin.ext (Nat.div_add_mod _ _).symm⟩
  rw [quot_at O, ref_ctx]
  exact weights _ (fun u => score_real hA b g (rowOf d i) u) fun u => A.v b u (col g l)

end Cert.Attn

end
-- ==== Proof.Answer.lean ====
/- The value claim: what the run leaves on each device is its rows of the reference's result. -/
module

public import proofs.«01_k».proof.Proof.Agree
public import proofs.«01_k».proof.Proof.Frames
public import Idealize.ShloMosaic.Lib.Pipeline.ValueKit
public import Idealize.ShloMosaic.Lib.ReduceAll

@[expose] public section

set_option maxRecDepth 16384

noncomputable section

namespace Cert.Attn

open Idealize.ShloMosaic Idealize.ShloMosaic.TcCoe
open Idealize.SL Idealize.SL.Sem
open Idealize.ShloMosaic.Pointwise
open Cert.KernelIdeal
open Facts₀ Facts
open Cert.KernelIdeal.Gen

attribute [local instance] theFacts

section
variable (m : (ℓ : Loc nD τ sig) → Buf (Elt Ideal) ℓ) (ρ : Dev nD → PrngReg)

theorem idx : ∀ t : Fin cfg0.N, win0_0.index t = ![0, 0, 0] ∧ win0_1.index t = ![0, 0] ∧ win0_2.index t = ![0, 0] ∧ win0_3.index t = ![0, 0]
    ∧ win0_4.index t = ![0, 0] :=
  (by decide +kernel : ∀ t : Fin grid0.N, _)

/-- The windows' blocks are the whole arrays. -/
theorem inp_x (d : Dev nD) : (inp m).x d = m ((d.tc : Thread nD τ).loc main_arg0) := by
  show (fun j => m ((d : Thread nD τ).loc main_arg0) ((win0_0.blk t0_0).view.emb j)) = _
  funext j
  blk_ext [idx t0_0]
theorem inp_wq (d : Dev nD) : (inp m).wq d = m ((d.tc : Thread nD τ).loc main_arg1) := by
  show (fun j => m ((d : Thread nD τ).loc main_arg1) ((win0_1.blk t0_0).view.emb j)) = _
  funext j
  blk_ext [idx t0_0]
theorem inp_wk (d : Dev nD) : (inp m).wk d = m ((d.tc : Thread nD τ).loc main_arg2) := by
  show (fun j => m ((d : Thread nD τ).loc main_arg2) ((win0_2.blk t0_0).view.emb j)) = _
  funext j
  blk_ext [idx t0_0]
theorem inp_wv (d : Dev nD) : (inp m).wv d = m ((d.tc : Thread nD τ).loc main_arg3) := by
  show (fun j => m ((d : Thread nD τ).loc main_arg3) ((win0_3.blk t0_0).view.emb j)) = _
  funext j
  blk_ext [idx t0_0]
theorem inp_wo (d : Dev nD) : (inp m).wo d = m ((d.tc : Thread nD τ).loc main_arg4) := by
  show (fun j => m ((d : Thread nD τ).loc main_arg4) ((win0_4.blk t0_0).view.emb j)) = _
  funext j
  blk_ext [idx t0_0]

/-- The result array ends with the result. -/
theorem final_res (c : Dev nD) : finalA m ρ c (5 : Fin 6) = (inp m).res c := by
  refine (dats m ρ 0 c).arrAt_eq_of_after_last 5 t0_0 (by decide +kernel) _ fun j => ?_
  blk_simp
  rfl

end

/-- What the precondition says of the arguments. -/
theorem finite_entries {x : FVec Ideal S2x512x1024 .f32} {w₁ w₂ w₃ w₄ : FVec Ideal S1024x1024 .f32}
    (h : @Cert.Pre_finite_KernelIdeal.fn Cert.Pre_finite_KernelIdeal.Gen.facts Ideal _ x w₁ w₂ w₃ w₄ = fun _ => 1#1) :
    (∀ i, IsReal (x i)) ∧ (∀ i, IsReal (w₁ i)) ∧ ∀ i, IsReal (w₂ i) := by
  letI := Cert.Pre_finite_KernelIdeal.Gen.facts
  haveI : Subsingleton Cert.Pre_finite_KernelIdeal.S_.Idx := ⟨fun a b => funext fun k => k.elim0⟩
  have h0 := congrFun h (fun a => a.elim0)
  unfold Cert.Pre_finite_KernelIdeal.fn at h0
  obtain ⟨h1, h2⟩ := IntOp.andi_eq_one.1 h0
  obtain ⟨h3, h4⟩ := IntOp.andi_eq_one.1 h1
  refine ⟨fun i => ?_, fun i => ?_, fun i => ?_⟩
  · have e := (Ideal.cmp_olt_eq_one _ _).1 (Host.reduce_andi_all _ _ _ _ _ h3 i)
    exact IsReal.of_abs (lt_of_lt_of_eq e pos_inf)
  · have e := (Ideal.cmp_olt_eq_one _ _).1 (Host.reduce_andi_all _ _ _ _ _ h4 i)
    exact IsReal.of_abs (lt_of_lt_of_eq e pos_inf)
  · have e := (Ideal.cmp_olt_eq_one _ _).1 (Host.reduce_andi_all _ _ _ _ _ h2 i)
    exact IsReal.of_abs (lt_of_lt_of_eq e pos_inf)

/-- Row `i` of a device's block is that row of the device's among all. -/
theorem block_row (c : Fin 4) (v : (⟨3, ![2, 2048, 1024]⟩ : Shape).Idx → EReal) (b : Fin 2) (i : Fin 512) (k : Fin 1024) :
    Layout.block ⟨3, ![2, 512, 1024]⟩ ⟨3, ![2, 2048, 1024]⟩ 1 4 c v (by decide) (ix3 b i k) = v (ix3 b (rowOf c i) k) := by
  rw [Layout.block_apply]
  congr 1
  refine Shape.idx3_ext rfl ?_ rfl
  show c.val * 512 + i.val = 512 * c.val + i.val
  omega

theorem real_of_blocks {v : (⟨3, ![2, 2048, 1024]⟩ : Shape).Idx → EReal} (h : ∀ (c : Fin 4) (b : Fin 2) (i : Fin 512) (k : Fin 1024), IsReal (v (ix3 b (rowOf c i) k)))
    (b : Fin 2) (t : Fin 2048) (k : Fin 1024) : IsReal (v (ix3 b t k)) := by
  have e : t = rowOf ⟨t.val / 512, by omega⟩ ⟨t.val % 512, by omega⟩ := Fin.ext (Nat.div_add_mod _ _).symm
  rw [e]
  exact h _ _ _ _

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hag
  refine ⟨Cert.ReferenceIdeal.Value.res_main_v80 m' 0, (θ_run _ _ _).mono (fun r h c => ⟨?_, (h.1 c).2⟩) (run_args m g),
    (θ_run _ _ _).mono (fun r h => h 0) (Cert.ReferenceIdeal.Value.run m' g')⟩
  let A : Whole := ⟨m' ((Dev.tc (0 : Dev Cert.ReferenceIdeal.nD) : Thread Cert.ReferenceIdeal.nD Cert.ReferenceIdeal.τ).loc Cert.ReferenceIdeal.main_arg0),
    m' ((Dev.tc (0 : Dev Cert.ReferenceIdeal.nD) : Thread Cert.ReferenceIdeal.nD Cert.ReferenceIdeal.τ).loc Cert.ReferenceIdeal.main_arg1),
    m' ((Dev.tc (0 : Dev Cert.ReferenceIdeal.nD) : Thread Cert.ReferenceIdeal.nD Cert.ReferenceIdeal.τ).loc Cert.ReferenceIdeal.main_arg2),
    m' ((Dev.tc (0 : Dev Cert.ReferenceIdeal.nD) : Thread Cert.ReferenceIdeal.nD Cert.ReferenceIdeal.τ).loc Cert.ReferenceIdeal.main_arg3),
    m' ((Dev.tc (0 : Dev Cert.ReferenceIdeal.nD) : Thread Cert.ReferenceIdeal.nD Cert.ReferenceIdeal.τ).loc Cert.ReferenceIdeal.main_arg4)⟩
  have O : A.Of (inp m) := {
    x := fun d b i k => (congrFun ((inp_x m d).trans (hag d).1) (ix3 b i k)).trans (block_row d A.x b i k)
    wq := fun d => (inp_wq m d).trans (hag d).2.1
    wk := fun d => (inp_wk m d).trans (hag d).2.2.1
    wv := fun d => (inp_wv m d).trans (hag d).2.2.2.1
    wo := fun d => (inp_wo m d).trans (hag d).2.2.2.2 }
  have hA : A.Finite := {
    x := real_of_blocks fun c b i k => by
      have e := (finite_entries (hpre c)).1 (ix3 b i k)
      rw [(hag c).1, block_row c A.x b i k] at e
      exact e
    wq := fun k j => by
      have e := (finite_entries (hpre 0)).2.1 (ix2 k j)
      rw [(hag 0).2.1] at e
      exact e
    wk := fun k j => by
      have e := (finite_entries (hpre 0)).2.2 (ix2 k j)
      rw [(hag 0).2.2.1] at e
      exact e }
  rw [(h.1 c).1, final_res, Ref.res_eq]
  funext i
  obtain ⟨b, t, n, rfl⟩ : ∃ (b : Fin 2) (t : Fin 512) (n : Fin 1024), i = ix3 b t n := ⟨i 0, i 1, i 2, Shape.idx3_ext rfl rfl rfl⟩
  exact (res_at O hA c b t n).trans (block_row c (Ref.attn A.x A.wq A.wk A.wv A.wo) b t n).symm

end Cert.Attn

end
-- ==== Proof.lean ====
/- The claim, put together of the frames and the values proved in the modules under Proof/. -/
module

public import proofs.«01_k».proof.Defs
public import proofs.«01_k».proof.Proof.Gen.ReferenceIdeal
public import proofs.«01_k».proof.Proof.Gen.ReferenceIdeal.Run
public import proofs.«01_k».proof.Proof.Gen.Kernel
public import proofs.«01_k».proof.Proof.Gen.KernelIdeal
public import proofs.«01_k».proof.Proof.Gen.Pre_finite_KernelIdeal
public import proofs.«01_k».proof.Proof.Gen.Pre_finite_ReferenceIdeal
public import proofs.«01_k».proof.Proof.Frames
public import proofs.«01_k».proof.Proof.Answer

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.Attn.frame_kernel, Cert.Attn.frame_ideal, Cert.Attn.frame_ideal_finite,
    Cert.Attn.frame_reference, Cert.Attn.frame_reference_finite, Cert.Attn.preserves, Cert.Attn.algebraic⟩

end Cert.Proof

end
